-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![16384, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16384x256 : Shape := ⟨2, ![16384, 256]⟩
abbrev S32x512x256 : Shape := ⟨3, ![32, 512, 256]⟩
abbrev S31 : Shape := ⟨1, ![31]⟩
abbrev S_ : Shape := ⟨0, ![]⟩
abbrev S1x512x256 : Shape := ⟨3, ![1, 512, 256]⟩
abbrev S1 : Shape := ⟨1, ![1]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S16384x256, .bf16⟩
  | .local _ .vmem, ⟨9, _⟩ => ⟨S16384x256, .bf16⟩
  | .local _ .vmem, ⟨10, _⟩ => ⟨S32x512x256, .f32⟩
  | .local _ .vmem, ⟨11, _⟩ => ⟨S32x512x256, .bf16⟩
  | .local _ .vmem, ⟨12, _⟩ => ⟨S256x512, .bf16⟩
  | .local _ .vmem, ⟨13, _⟩ => ⟨S512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 2 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v32 : BitVec 32 := Scalar.muli v2 c512_i32
  let v33 : Index := Scalar.indexCast v32
  let c0_20 : Index := 0#32
  ![v33.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27 : BitVec 32 := 1#32
  let v43 : BitVec 32 := Scalar.muli v24 c1_i32_27
  let v44 : BitVec 32 := Scalar.addi c0_i32_28 v43
  v44.toNat
def k0_off2 (d0 : Dev nD) (c1_i32_50 : BitVec 32) (c0_i32_51 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v63 : BitVec 32 := Scalar.subi v2 c1_i32_50
  let v64 : BitVec 32 := Scalar.subi v63 c0_i32_51
  let c32_i32_52 : BitVec 32 := 32#32
  let c0_i32_53 : BitVec 32 := 0#32
  let v65 : BitVec 1 := Scalar.cmpi .eq c32_i32_52 c0_i32_53
  let c1_i32_54 : BitVec 32 := 1#32
  let v66 : BitVec 32 := Scalar.select v65 c1_i32_54 c32_i32_52
  let v67 : BitVec 32 := Scalar.remsi v64 v66
  let c0_i32_56 : BitVec 32 := 0#32
  let v69 : BitVec 1 := Scalar.cmpi .slt v67 c0_i32_56
  let c0_i32_57 : BitVec 32 := 0#32
  let v70 : BitVec 1 := Scalar.cmpi .slt v66 c0_i32_57
  let v71 : BitVec 1 := Scalar.xori v69 v70
  let c0_i32_55 : BitVec 32 := 0#32
  let v68 : BitVec 1 := Scalar.cmpi .ne v67 c0_i32_55
  let v72 : BitVec 1 := Scalar.andi v71 v68
  let v73 : BitVec 32 := Scalar.addi v67 v66
  let v74 : BitVec 32 := Scalar.select v72 v73 v67
  let c512_i32_61 : BitVec 32 := 512#32
  let v77 : BitVec 32 := Scalar.muli v74 c512_i32_61
  let v78 : Index := Scalar.indexCast v77
  let c0_62 : Index := 0#32
  ![v78.toNat, 0]
def k0_off2_at (r : Fin 61) : BitVec 32 × BitVec 32 :=
  if r.val < 30 then
    if r.val < 15 then
      if r.val < 7 then
        if r.val < 3 then
          if r.val < 1 then
            (1#32, 0#32)
          else
            if r.val < 2 then
              (1#32, 1#32)
            else
              (1#32, 2#32)
        else
          if r.val < 5 then
            if r.val < 4 then
              (1#32, 3#32)
            else
              (1#32, 4#32)
          else
            if r.val < 6 then
              (1#32, 5#32)
            else
              (1#32, 6#32)
      else
        if r.val < 11 then
          if r.val < 9 then
            if r.val < 8 then
              (1#32, 7#32)
            else
              (1#32, 8#32)
          else
            if r.val < 10 then
              (1#32, 9#32)
            else
              (1#32, 10#32)
        else
          if r.val < 13 then
            if r.val < 12 then
              (1#32, 11#32)
            else
              (1#32, 12#32)
          else
            if r.val < 14 then
              (1#32, 13#32)
            else
              (1#32, 14#32)
    else
      if r.val < 22 then
        if r.val < 18 then
          if r.val < 16 then
            (1#32, 15#32)
          else
            if r.val < 17 then
              (1#32, 16#32)
            else
              (1#32, 17#32)
        else
          if r.val < 20 then
            if r.val < 19 then
              (1#32, 18#32)
            else
              (1#32, 19#32)
          else
            if r.val < 21 then
              (1#32, 20#32)
            else
              (1#32, 21#32)
      else
        if r.val < 26 then
          if r.val < 24 then
            if r.val < 23 then
              (1#32, 22#32)
            else
              (1#32, 23#32)
          else
            if r.val < 25 then
              (1#32, 24#32)
            else
              (1#32, 25#32)
        else
          if r.val < 28 then
            if r.val < 27 then
              (1#32, 26#32)
            else
              (1#32, 27#32)
          else
            if r.val < 29 then
              (1#32, 28#32)
            else
              (1#32, 29#32)
  else
    if r.val < 45 then
      if r.val < 37 then
        if r.val < 33 then
          if r.val < 31 then
            (1#32, 30#32)
          else
            if r.val < 32 then
              (2#32, 0#32)
            else
              (2#32, 1#32)
        else
          if r.val < 35 then
            if r.val < 34 then
              (2#32, 2#32)
            else
              (2#32, 3#32)
          else
            if r.val < 36 then
              (2#32, 4#32)
            else
              (2#32, 5#32)
      else
        if r.val < 41 then
          if r.val < 39 then
            if r.val < 38 then
              (2#32, 6#32)
            else
              (2#32, 7#32)
          else
            if r.val < 40 then
              (2#32, 8#32)
            else
              (2#32, 9#32)
        else
          if r.val < 43 then
            if r.val < 42 then
              (2#32, 10#32)
            else
              (2#32, 11#32)
          else
            if r.val < 44 then
              (2#32, 12#32)
            else
              (2#32, 13#32)
    else
      if r.val < 53 then
        if r.val < 49 then
          if r.val < 47 then
            if r.val < 46 then
              (2#32, 14#32)
            else
              (2#32, 15#32)
          else
            if r.val < 48 then
              (2#32, 16#32)
            else
              (2#32, 17#32)
        else
          if r.val < 51 then
            if r.val < 50 then
              (2#32, 18#32)
            else
              (2#32, 19#32)
          else
            if r.val < 52 then
              (2#32, 20#32)
            else
              (2#32, 21#32)
      else
        if r.val < 57 then
          if r.val < 55 then
            if r.val < 54 then
              (2#32, 22#32)
            else
              (2#32, 23#32)
          else
            if r.val < 56 then
              (2#32, 24#32)
            else
              (2#32, 25#32)
        else
          if r.val < 59 then
            if r.val < 58 then
              (2#32, 26#32)
            else
              (2#32, 27#32)
          else
            if r.val < 60 then
              (2#32, 28#32)
            else
              (2#32, 29#32)
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_66 : BitVec 32 := 1#32
  let v82 : BitVec 32 := Scalar.muli v24 c1_i32_66
  let v83 : BitVec 32 := Scalar.addi c0_i32_67 v82
  v83.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_104 : BitVec 32 := 1#32
  let v121 : BitVec 32 := Scalar.muli v24 c1_i32_104
  let v122 : BitVec 32 := Scalar.addi c0_i32_105 v121
  v122.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_141 : BitVec 32 := 1#32
  let v160 : BitVec 32 := Scalar.muli v24 c1_i32_141
  let v161 : BitVec 32 := Scalar.addi c0_i32_142 v160
  v161.toNat
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v199 : BitVec 32 := Scalar.muli v24 c1_i32_178
  let v200 : BitVec 32 := Scalar.addi c0_i32_179 v199
  v200.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_215 : BitVec 32 := 1#32
  let v238 : BitVec 32 := Scalar.muli v24 c1_i32_215
  let v239 : BitVec 32 := Scalar.addi c0_i32_216 v238
  v239.toNat
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_252 : BitVec 32 := 1#32
  let v277 : BitVec 32 := Scalar.muli v24 c1_i32_252
  let v278 : BitVec 32 := Scalar.addi c0_i32_253 v277
  v278.toNat
def k0_dev10 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_289 : BitVec 32 := 1#32
  let v316 : BitVec 32 := Scalar.muli v24 c1_i32_289
  let v317 : BitVec 32 := Scalar.addi c0_i32_290 v316
  v317.toNat
def k0_dev11 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_326 : BitVec 32 := 1#32
  let v355 : BitVec 32 := Scalar.muli v24 c1_i32_326
  let v356 : BitVec 32 := Scalar.addi c0_i32_327 v355
  v356.toNat
def k0_dev12 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_363 : BitVec 32 := 1#32
  let v394 : BitVec 32 := Scalar.muli v24 c1_i32_363
  let v395 : BitVec 32 := Scalar.addi c0_i32_364 v394
  v395.toNat
def k0_dev13 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_400 : BitVec 32 := 1#32
  let v433 : BitVec 32 := Scalar.muli v24 c1_i32_400
  let v434 : BitVec 32 := Scalar.addi c0_i32_401 v433
  v434.toNat
def k0_dev14 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_437 : BitVec 32 := 1#32
  let v472 : BitVec 32 := Scalar.muli v24 c1_i32_437
  let v473 : BitVec 32 := Scalar.addi c0_i32_438 v472
  v473.toNat
def k0_dev15 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_474 : BitVec 32 := 1#32
  let v511 : BitVec 32 := Scalar.muli v24 c1_i32_474
  let v512 : BitVec 32 := Scalar.addi c0_i32_475 v511
  v512.toNat
def k0_dev16 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_511 : BitVec 32 := 1#32
  let v550 : BitVec 32 := Scalar.muli v24 c1_i32_511
  let v551 : BitVec 32 := Scalar.addi c0_i32_512 v550
  v551.toNat
def k0_dev17 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_548 : BitVec 32 := 1#32
  let v589 : BitVec 32 := Scalar.muli v24 c1_i32_548
  let v590 : BitVec 32 := Scalar.addi c0_i32_549 v589
  v590.toNat
def k0_dev18 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_585 : BitVec 32 := 1#32
  let v628 : BitVec 32 := Scalar.muli v24 c1_i32_585
  let v629 : BitVec 32 := Scalar.addi c0_i32_586 v628
  v629.toNat
def k0_dev19 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_622 : BitVec 32 := 1#32
  let v667 : BitVec 32 := Scalar.muli v24 c1_i32_622
  let v668 : BitVec 32 := Scalar.addi c0_i32_623 v667
  v668.toNat
def k0_dev20 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v706 : BitVec 32 := Scalar.muli v24 c1_i32_659
  let v707 : BitVec 32 := Scalar.addi c0_i32_660 v706
  v707.toNat
def k0_dev21 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_696 : BitVec 32 := 1#32
  let v745 : BitVec 32 := Scalar.muli v24 c1_i32_696
  let v746 : BitVec 32 := Scalar.addi c0_i32_697 v745
  v746.toNat
def k0_dev22 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_733 : BitVec 32 := 1#32
  let v784 : BitVec 32 := Scalar.muli v24 c1_i32_733
  let v785 : BitVec 32 := Scalar.addi c0_i32_734 v784
  v785.toNat
def k0_dev23 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_770 : BitVec 32 := 1#32
  let v823 : BitVec 32 := Scalar.muli v24 c1_i32_770
  let v824 : BitVec 32 := Scalar.addi c0_i32_771 v823
  v824.toNat
def k0_dev24 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_807 : BitVec 32 := 1#32
  let v862 : BitVec 32 := Scalar.muli v24 c1_i32_807
  let v863 : BitVec 32 := Scalar.addi c0_i32_808 v862
  v863.toNat
def k0_dev25 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_844 : BitVec 32 := 1#32
  let v901 : BitVec 32 := Scalar.muli v24 c1_i32_844
  let v902 : BitVec 32 := Scalar.addi c0_i32_845 v901
  v902.toNat
def k0_dev26 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_881 : BitVec 32 := 1#32
  let v940 : BitVec 32 := Scalar.muli v24 c1_i32_881
  let v941 : BitVec 32 := Scalar.addi c0_i32_882 v940
  v941.toNat
def k0_dev27 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_918 : BitVec 32 := 1#32
  let v979 : BitVec 32 := Scalar.muli v24 c1_i32_918
  let v980 : BitVec 32 := Scalar.addi c0_i32_919 v979
  v980.toNat
def k0_dev28 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_955 : BitVec 32 := 1#32
  let v1018 : BitVec 32 := Scalar.muli v24 c1_i32_955
  let v1019 : BitVec 32 := Scalar.addi c0_i32_956 v1018
  v1019.toNat
def k0_dev29 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_992 : BitVec 32 := 1#32
  let v1057 : BitVec 32 := Scalar.muli v24 c1_i32_992
  let v1058 : BitVec 32 := Scalar.addi c0_i32_993 v1057
  v1058.toNat
def k0_dev30 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1029 : BitVec 32 := 1#32
  let v1096 : BitVec 32 := Scalar.muli v24 c1_i32_1029
  let v1097 : BitVec 32 := Scalar.addi c0_i32_1030 v1096
  v1097.toNat
def k0_dev31 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1066 : BitVec 32 := 1#32
  let v1135 : BitVec 32 := Scalar.muli v24 c1_i32_1066
  let v1136 : BitVec 32 := Scalar.addi c0_i32_1067 v1135
  v1136.toNat
def k0_dev32 (d0 : Dev nD) : Nat :=
  let c0_i32_1104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1103 : BitVec 32 := 1#32
  let v1174 : BitVec 32 := Scalar.muli v24 c1_i32_1103
  let v1175 : BitVec 32 := Scalar.addi c0_i32_1104 v1174
  v1175.toNat
def k0_dev33 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1140 : BitVec 32 := 1#32
  let v1213 : BitVec 32 := Scalar.muli v24 c1_i32_1140
  let v1214 : BitVec 32 := Scalar.addi c0_i32_1141 v1213
  v1214.toNat
@[reducible] def k0_t1_loop : Scf.Loop 32 :=
  let c0_i32_1183 : BitVec 32 := 0#32
  let c32_i32_1184 : BitVec 32 := 32#32
  let v1262 : BitVec 32 := Scalar.addi c0_i32_1183 c32_i32_1184
  let c1_i32_1185 : BitVec 32 := 1#32
  ⟨c0_i32_1183, v1262, c1_i32_1185⟩
def k0_off3 (k0_t1 : Fin k0_t1_loop.trips) : Fin 2 → Nat :=
  let c0_i32_1183 : BitVec 32 := 0#32
  let c1_i32_1185 : BitVec 32 := 1#32
  let arg17 : BitVec 32 := Scf.iv c0_i32_1183 c1_i32_1185 k0_t1
  let c512_i32_7554 : BitVec 32 := 512#32
  let v7643 : BitVec 32 := Scalar.muli arg17 c512_i32_7554
  let v7644 : Index := Scalar.indexCast v7643
  let c0_7555 : Index := 0#32
  ![v7644.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1187 : BitVec 32 := 1#32
  let v1263 : BitVec 32 := Scalar.subi v2 c1_i32_1187
  let c32_i32_1188 : BitVec 32 := 32#32
  let c0_i32_1189 : BitVec 32 := 0#32
  let v1264 : BitVec 1 := Scalar.cmpi .eq c32_i32_1188 c0_i32_1189
  let c1_i32_1190 : BitVec 32 := 1#32
  let v1265 : BitVec 32 := Scalar.select v1264 c1_i32_1190 c32_i32_1188
  let v1266 : BitVec 32 := Scalar.remsi v1263 v1265
  let c0_i32_1192 : BitVec 32 := 0#32
  let v1268 : BitVec 1 := Scalar.cmpi .slt v1266 c0_i32_1192
  let c0_i32_1193 : BitVec 32 := 0#32
  let v1269 : BitVec 1 := Scalar.cmpi .slt v1265 c0_i32_1193
  let v1270 : BitVec 1 := Scalar.xori v1268 v1269
  let c0_i32_1191 : BitVec 32 := 0#32
  let v1267 : BitVec 1 := Scalar.cmpi .ne v1266 c0_i32_1191
  let v1271 : BitVec 1 := Scalar.andi v1270 v1267
  let v1272 : BitVec 32 := Scalar.addi v1266 v1265
  let v1273 : BitVec 32 := Scalar.select v1271 v1272 v1266
  let c512_i32_1194 : BitVec 32 := 512#32
  let v1274 : BitVec 32 := Scalar.muli v1273 c512_i32_1194
  let v1275 : Index := Scalar.indexCast v1274
  let c0_1195 : Index := 0#32
  ![v1275.toNat, 0]
def k0_dev34 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1202 : BitVec 32 := 1#32
  let v1281 : BitVec 32 := Scalar.muli v24 c1_i32_1202
  let v1282 : BitVec 32 := Scalar.addi c0_i32_1203 v1281
  v1282.toNat
def k0_dev35 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1244 : BitVec 32 := 1#32
  let v1323 : BitVec 32 := Scalar.muli v24 c1_i32_1244
  let v1324 : BitVec 32 := Scalar.addi c0_i32_1245 v1323
  v1324.toNat
def k0_dev36 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1286 : BitVec 32 := 1#32
  let v1365 : BitVec 32 := Scalar.muli v24 c1_i32_1286
  let v1366 : BitVec 32 := Scalar.addi c0_i32_1287 v1365
  v1366.toNat
def k0_dev37 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1328 : BitVec 32 := 1#32
  let v1407 : BitVec 32 := Scalar.muli v24 c1_i32_1328
  let v1408 : BitVec 32 := Scalar.addi c0_i32_1329 v1407
  v1408.toNat
def k0_dev38 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1370 : BitVec 32 := 1#32
  let v1449 : BitVec 32 := Scalar.muli v24 c1_i32_1370
  let v1450 : BitVec 32 := Scalar.addi c0_i32_1371 v1449
  v1450.toNat
def k0_dev39 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1412 : BitVec 32 := 1#32
  let v1491 : BitVec 32 := Scalar.muli v24 c1_i32_1412
  let v1492 : BitVec 32 := Scalar.addi c0_i32_1413 v1491
  v1492.toNat
def k0_dev40 (d0 : Dev nD) : Nat :=
  let c0_i32_1455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1454 : BitVec 32 := 1#32
  let v1533 : BitVec 32 := Scalar.muli v24 c1_i32_1454
  let v1534 : BitVec 32 := Scalar.addi c0_i32_1455 v1533
  v1534.toNat
def k0_dev41 (d0 : Dev nD) : Nat :=
  let c0_i32_1497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1496 : BitVec 32 := 1#32
  let v1575 : BitVec 32 := Scalar.muli v24 c1_i32_1496
  let v1576 : BitVec 32 := Scalar.addi c0_i32_1497 v1575
  v1576.toNat
def k0_dev42 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1538 : BitVec 32 := 1#32
  let v1617 : BitVec 32 := Scalar.muli v24 c1_i32_1538
  let v1618 : BitVec 32 := Scalar.addi c0_i32_1539 v1617
  v1618.toNat
def k0_dev43 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1580 : BitVec 32 := 1#32
  let v1659 : BitVec 32 := Scalar.muli v24 c1_i32_1580
  let v1660 : BitVec 32 := Scalar.addi c0_i32_1581 v1659
  v1660.toNat
def k0_dev44 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1622 : BitVec 32 := 1#32
  let v1701 : BitVec 32 := Scalar.muli v24 c1_i32_1622
  let v1702 : BitVec 32 := Scalar.addi c0_i32_1623 v1701
  v1702.toNat
def k0_dev45 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1664 : BitVec 32 := 1#32
  let v1743 : BitVec 32 := Scalar.muli v24 c1_i32_1664
  let v1744 : BitVec 32 := Scalar.addi c0_i32_1665 v1743
  v1744.toNat
def k0_dev46 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1706 : BitVec 32 := 1#32
  let v1785 : BitVec 32 := Scalar.muli v24 c1_i32_1706
  let v1786 : BitVec 32 := Scalar.addi c0_i32_1707 v1785
  v1786.toNat
def k0_dev47 (d0 : Dev nD) : Nat :=
  let c0_i32_1749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1748 : BitVec 32 := 1#32
  let v1827 : BitVec 32 := Scalar.muli v24 c1_i32_1748
  let v1828 : BitVec 32 := Scalar.addi c0_i32_1749 v1827
  v1828.toNat
def k0_dev48 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1790 : BitVec 32 := 1#32
  let v1869 : BitVec 32 := Scalar.muli v24 c1_i32_1790
  let v1870 : BitVec 32 := Scalar.addi c0_i32_1791 v1869
  v1870.toNat
def k0_dev49 (d0 : Dev nD) : Nat :=
  let c0_i32_1833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1832 : BitVec 32 := 1#32
  let v1911 : BitVec 32 := Scalar.muli v24 c1_i32_1832
  let v1912 : BitVec 32 := Scalar.addi c0_i32_1833 v1911
  v1912.toNat
def k0_dev50 (d0 : Dev nD) : Nat :=
  let c0_i32_1875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1874 : BitVec 32 := 1#32
  let v1953 : BitVec 32 := Scalar.muli v24 c1_i32_1874
  let v1954 : BitVec 32 := Scalar.addi c0_i32_1875 v1953
  v1954.toNat
def k0_dev51 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1916 : BitVec 32 := 1#32
  let v1995 : BitVec 32 := Scalar.muli v24 c1_i32_1916
  let v1996 : BitVec 32 := Scalar.addi c0_i32_1917 v1995
  v1996.toNat
def k0_dev52 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1958 : BitVec 32 := 1#32
  let v2037 : BitVec 32 := Scalar.muli v24 c1_i32_1958
  let v2038 : BitVec 32 := Scalar.addi c0_i32_1959 v2037
  v2038.toNat
def k0_dev53 (d0 : Dev nD) : Nat :=
  let c0_i32_2001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2000 : BitVec 32 := 1#32
  let v2079 : BitVec 32 := Scalar.muli v24 c1_i32_2000
  let v2080 : BitVec 32 := Scalar.addi c0_i32_2001 v2079
  v2080.toNat
def k0_dev54 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2042 : BitVec 32 := 1#32
  let v2121 : BitVec 32 := Scalar.muli v24 c1_i32_2042
  let v2122 : BitVec 32 := Scalar.addi c0_i32_2043 v2121
  v2122.toNat
def k0_dev55 (d0 : Dev nD) : Nat :=
  let c0_i32_2085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2084 : BitVec 32 := 1#32
  let v2163 : BitVec 32 := Scalar.muli v24 c1_i32_2084
  let v2164 : BitVec 32 := Scalar.addi c0_i32_2085 v2163
  v2164.toNat
def k0_dev56 (d0 : Dev nD) : Nat :=
  let c0_i32_2127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2126 : BitVec 32 := 1#32
  let v2205 : BitVec 32 := Scalar.muli v24 c1_i32_2126
  let v2206 : BitVec 32 := Scalar.addi c0_i32_2127 v2205
  v2206.toNat
def k0_dev57 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2168 : BitVec 32 := 1#32
  let v2247 : BitVec 32 := Scalar.muli v24 c1_i32_2168
  let v2248 : BitVec 32 := Scalar.addi c0_i32_2169 v2247
  v2248.toNat
def k0_dev58 (d0 : Dev nD) : Nat :=
  let c0_i32_2211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2210 : BitVec 32 := 1#32
  let v2289 : BitVec 32 := Scalar.muli v24 c1_i32_2210
  let v2290 : BitVec 32 := Scalar.addi c0_i32_2211 v2289
  v2290.toNat
def k0_dev59 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2252 : BitVec 32 := 1#32
  let v2331 : BitVec 32 := Scalar.muli v24 c1_i32_2252
  let v2332 : BitVec 32 := Scalar.addi c0_i32_2253 v2331
  v2332.toNat
def k0_dev60 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2294 : BitVec 32 := 1#32
  let v2373 : BitVec 32 := Scalar.muli v24 c1_i32_2294
  let v2374 : BitVec 32 := Scalar.addi c0_i32_2295 v2373
  v2374.toNat
def k0_dev61 (d0 : Dev nD) : Nat :=
  let c0_i32_2337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2336 : BitVec 32 := 1#32
  let v2415 : BitVec 32 := Scalar.muli v24 c1_i32_2336
  let v2416 : BitVec 32 := Scalar.addi c0_i32_2337 v2415
  v2416.toNat
def k0_dev62 (d0 : Dev nD) : Nat :=
  let c0_i32_2379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2378 : BitVec 32 := 1#32
  let v2457 : BitVec 32 := Scalar.muli v24 c1_i32_2378
  let v2458 : BitVec 32 := Scalar.addi c0_i32_2379 v2457
  v2458.toNat
def k0_dev63 (d0 : Dev nD) : Nat :=
  let c0_i32_2421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2420 : BitVec 32 := 1#32
  let v2499 : BitVec 32 := Scalar.muli v24 c1_i32_2420
  let v2500 : BitVec 32 := Scalar.addi c0_i32_2421 v2499
  v2500.toNat
def k0_dev64 (d0 : Dev nD) : Nat :=
  let c0_i32_2463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2462 : BitVec 32 := 1#32
  let v2541 : BitVec 32 := Scalar.muli v24 c1_i32_2462
  let v2542 : BitVec 32 := Scalar.addi c0_i32_2463 v2541
  v2542.toNat
def k0_dev65 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2500 : BitVec 32 := 1#32
  let v2580 : BitVec 32 := Scalar.muli v24 c1_i32_2500
  let v2581 : BitVec 32 := Scalar.addi c0_i32_2501 v2580
  v2581.toNat
def k0_dev66 (d0 : Dev nD) : Nat :=
  let c0_i32_2540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2539 : BitVec 32 := 1#32
  let v2619 : BitVec 32 := Scalar.muli v24 c1_i32_2539
  let v2620 : BitVec 32 := Scalar.addi c0_i32_2540 v2619
  v2620.toNat
def k0_dev67 (d0 : Dev nD) : Nat :=
  let c0_i32_2579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2578 : BitVec 32 := 1#32
  let v2658 : BitVec 32 := Scalar.muli v24 c1_i32_2578
  let v2659 : BitVec 32 := Scalar.addi c0_i32_2579 v2658
  v2659.toNat
def k0_dev68 (d0 : Dev nD) : Nat :=
  let c0_i32_2618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2617 : BitVec 32 := 1#32
  let v2697 : BitVec 32 := Scalar.muli v24 c1_i32_2617
  let v2698 : BitVec 32 := Scalar.addi c0_i32_2618 v2697
  v2698.toNat
def k0_dev69 (d0 : Dev nD) : Nat :=
  let c0_i32_2657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2656 : BitVec 32 := 1#32
  let v2736 : BitVec 32 := Scalar.muli v24 c1_i32_2656
  let v2737 : BitVec 32 := Scalar.addi c0_i32_2657 v2736
  v2737.toNat
def k0_dev70 (d0 : Dev nD) : Nat :=
  let c0_i32_2696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2695 : BitVec 32 := 1#32
  let v2775 : BitVec 32 := Scalar.muli v24 c1_i32_2695
  let v2776 : BitVec 32 := Scalar.addi c0_i32_2696 v2775
  v2776.toNat
def k0_dev71 (d0 : Dev nD) : Nat :=
  let c0_i32_2735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2734 : BitVec 32 := 1#32
  let v2814 : BitVec 32 := Scalar.muli v24 c1_i32_2734
  let v2815 : BitVec 32 := Scalar.addi c0_i32_2735 v2814
  v2815.toNat
def k0_dev72 (d0 : Dev nD) : Nat :=
  let c0_i32_2774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2773 : BitVec 32 := 1#32
  let v2853 : BitVec 32 := Scalar.muli v24 c1_i32_2773
  let v2854 : BitVec 32 := Scalar.addi c0_i32_2774 v2853
  v2854.toNat
def k0_dev73 (d0 : Dev nD) : Nat :=
  let c0_i32_2813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2812 : BitVec 32 := 1#32
  let v2892 : BitVec 32 := Scalar.muli v24 c1_i32_2812
  let v2893 : BitVec 32 := Scalar.addi c0_i32_2813 v2892
  v2893.toNat
def k0_dev74 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2851 : BitVec 32 := 1#32
  let v2931 : BitVec 32 := Scalar.muli v24 c1_i32_2851
  let v2932 : BitVec 32 := Scalar.addi c0_i32_2852 v2931
  v2932.toNat
def k0_dev75 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2890 : BitVec 32 := 1#32
  let v2970 : BitVec 32 := Scalar.muli v24 c1_i32_2890
  let v2971 : BitVec 32 := Scalar.addi c0_i32_2891 v2970
  v2971.toNat
def k0_dev76 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2929 : BitVec 32 := 1#32
  let v3009 : BitVec 32 := Scalar.muli v24 c1_i32_2929
  let v3010 : BitVec 32 := Scalar.addi c0_i32_2930 v3009
  v3010.toNat
def k0_dev77 (d0 : Dev nD) : Nat :=
  let c0_i32_2969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2968 : BitVec 32 := 1#32
  let v3048 : BitVec 32 := Scalar.muli v24 c1_i32_2968
  let v3049 : BitVec 32 := Scalar.addi c0_i32_2969 v3048
  v3049.toNat
def k0_dev78 (d0 : Dev nD) : Nat :=
  let c0_i32_3008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3007 : BitVec 32 := 1#32
  let v3087 : BitVec 32 := Scalar.muli v24 c1_i32_3007
  let v3088 : BitVec 32 := Scalar.addi c0_i32_3008 v3087
  v3088.toNat
def k0_dev79 (d0 : Dev nD) : Nat :=
  let c0_i32_3047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3046 : BitVec 32 := 1#32
  let v3126 : BitVec 32 := Scalar.muli v24 c1_i32_3046
  let v3127 : BitVec 32 := Scalar.addi c0_i32_3047 v3126
  v3127.toNat
def k0_dev80 (d0 : Dev nD) : Nat :=
  let c0_i32_3086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3085 : BitVec 32 := 1#32
  let v3165 : BitVec 32 := Scalar.muli v24 c1_i32_3085
  let v3166 : BitVec 32 := Scalar.addi c0_i32_3086 v3165
  v3166.toNat
def k0_dev81 (d0 : Dev nD) : Nat :=
  let c0_i32_3125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3124 : BitVec 32 := 1#32
  let v3204 : BitVec 32 := Scalar.muli v24 c1_i32_3124
  let v3205 : BitVec 32 := Scalar.addi c0_i32_3125 v3204
  v3205.toNat
def k0_dev82 (d0 : Dev nD) : Nat :=
  let c0_i32_3164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3163 : BitVec 32 := 1#32
  let v3243 : BitVec 32 := Scalar.muli v24 c1_i32_3163
  let v3244 : BitVec 32 := Scalar.addi c0_i32_3164 v3243
  v3244.toNat
def k0_dev83 (d0 : Dev nD) : Nat :=
  let c0_i32_3203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3202 : BitVec 32 := 1#32
  let v3282 : BitVec 32 := Scalar.muli v24 c1_i32_3202
  let v3283 : BitVec 32 := Scalar.addi c0_i32_3203 v3282
  v3283.toNat
def k0_dev84 (d0 : Dev nD) : Nat :=
  let c0_i32_3242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3241 : BitVec 32 := 1#32
  let v3321 : BitVec 32 := Scalar.muli v24 c1_i32_3241
  let v3322 : BitVec 32 := Scalar.addi c0_i32_3242 v3321
  v3322.toNat
def k0_dev85 (d0 : Dev nD) : Nat :=
  let c0_i32_3281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3280 : BitVec 32 := 1#32
  let v3360 : BitVec 32 := Scalar.muli v24 c1_i32_3280
  let v3361 : BitVec 32 := Scalar.addi c0_i32_3281 v3360
  v3361.toNat
def k0_dev86 (d0 : Dev nD) : Nat :=
  let c0_i32_3320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3319 : BitVec 32 := 1#32
  let v3399 : BitVec 32 := Scalar.muli v24 c1_i32_3319
  let v3400 : BitVec 32 := Scalar.addi c0_i32_3320 v3399
  v3400.toNat
def k0_dev87 (d0 : Dev nD) : Nat :=
  let c0_i32_3359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3358 : BitVec 32 := 1#32
  let v3438 : BitVec 32 := Scalar.muli v24 c1_i32_3358
  let v3439 : BitVec 32 := Scalar.addi c0_i32_3359 v3438
  v3439.toNat
def k0_dev88 (d0 : Dev nD) : Nat :=
  let c0_i32_3398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3397 : BitVec 32 := 1#32
  let v3477 : BitVec 32 := Scalar.muli v24 c1_i32_3397
  let v3478 : BitVec 32 := Scalar.addi c0_i32_3398 v3477
  v3478.toNat
def k0_dev89 (d0 : Dev nD) : Nat :=
  let c0_i32_3437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3436 : BitVec 32 := 1#32
  let v3516 : BitVec 32 := Scalar.muli v24 c1_i32_3436
  let v3517 : BitVec 32 := Scalar.addi c0_i32_3437 v3516
  v3517.toNat
def k0_dev90 (d0 : Dev nD) : Nat :=
  let c0_i32_3476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3475 : BitVec 32 := 1#32
  let v3555 : BitVec 32 := Scalar.muli v24 c1_i32_3475
  let v3556 : BitVec 32 := Scalar.addi c0_i32_3476 v3555
  v3556.toNat
def k0_dev91 (d0 : Dev nD) : Nat :=
  let c0_i32_3515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3514 : BitVec 32 := 1#32
  let v3594 : BitVec 32 := Scalar.muli v24 c1_i32_3514
  let v3595 : BitVec 32 := Scalar.addi c0_i32_3515 v3594
  v3595.toNat
def k0_dev92 (d0 : Dev nD) : Nat :=
  let c0_i32_3554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3553 : BitVec 32 := 1#32
  let v3633 : BitVec 32 := Scalar.muli v24 c1_i32_3553
  let v3634 : BitVec 32 := Scalar.addi c0_i32_3554 v3633
  v3634.toNat
def k0_dev93 (d0 : Dev nD) : Nat :=
  let c0_i32_3593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3592 : BitVec 32 := 1#32
  let v3672 : BitVec 32 := Scalar.muli v24 c1_i32_3592
  let v3673 : BitVec 32 := Scalar.addi c0_i32_3593 v3672
  v3673.toNat
def k0_dev94 (d0 : Dev nD) : Nat :=
  let c0_i32_3632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3631 : BitVec 32 := 1#32
  let v3711 : BitVec 32 := Scalar.muli v24 c1_i32_3631
  let v3712 : BitVec 32 := Scalar.addi c0_i32_3632 v3711
  v3712.toNat
def k0_dev95 (d0 : Dev nD) : Nat :=
  let c0_i32_3671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3670 : BitVec 32 := 1#32
  let v3750 : BitVec 32 := Scalar.muli v24 c1_i32_3670
  let v3751 : BitVec 32 := Scalar.addi c0_i32_3671 v3750
  v3751.toNat
@[reducible] def k0_t2_loop : Scf.Loop 32 :=
  let c0_i32_3714 : BitVec 32 := 0#32
  let c32_i32_3715 : BitVec 32 := 32#32
  let v3799 : BitVec 32 := Scalar.addi c0_i32_3714 c32_i32_3715
  let c1_i32_3716 : BitVec 32 := 1#32
  ⟨c0_i32_3714, v3799, c1_i32_3716⟩
def k0_off5 (k0_t2 : Fin k0_t2_loop.trips) : Fin 2 → Nat :=
  let c0_i32_3714 : BitVec 32 := 0#32
  let c1_i32_3716 : BitVec 32 := 1#32
  let arg17 : BitVec 32 := Scf.iv c0_i32_3714 c1_i32_3716 k0_t2
  let c512_i32_7554 : BitVec 32 := 512#32
  let v7643 : BitVec 32 := Scalar.muli arg17 c512_i32_7554
  let v7644 : Index := Scalar.indexCast v7643
  let c0_7555 : Index := 0#32
  ![v7644.toNat, 0]
def k0_dev96 (d0 : Dev nD) : Nat :=
  let c0_i32_3734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3733 : BitVec 32 := 1#32
  let v3818 : BitVec 32 := Scalar.muli v24 c1_i32_3733
  let v3819 : BitVec 32 := Scalar.addi c0_i32_3734 v3818
  v3819.toNat
def k0_dev97 (d0 : Dev nD) : Nat :=
  let c0_i32_3776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3775 : BitVec 32 := 1#32
  let v3860 : BitVec 32 := Scalar.muli v24 c1_i32_3775
  let v3861 : BitVec 32 := Scalar.addi c0_i32_3776 v3860
  v3861.toNat
def k0_dev98 (d0 : Dev nD) : Nat :=
  let c0_i32_3818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3817 : BitVec 32 := 1#32
  let v3902 : BitVec 32 := Scalar.muli v24 c1_i32_3817
  let v3903 : BitVec 32 := Scalar.addi c0_i32_3818 v3902
  v3903.toNat
def k0_dev99 (d0 : Dev nD) : Nat :=
  let c0_i32_3860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3859 : BitVec 32 := 1#32
  let v3944 : BitVec 32 := Scalar.muli v24 c1_i32_3859
  let v3945 : BitVec 32 := Scalar.addi c0_i32_3860 v3944
  v3945.toNat
def k0_dev100 (d0 : Dev nD) : Nat :=
  let c0_i32_3902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3901 : BitVec 32 := 1#32
  let v3986 : BitVec 32 := Scalar.muli v24 c1_i32_3901
  let v3987 : BitVec 32 := Scalar.addi c0_i32_3902 v3986
  v3987.toNat
def k0_dev101 (d0 : Dev nD) : Nat :=
  let c0_i32_3944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3943 : BitVec 32 := 1#32
  let v4028 : BitVec 32 := Scalar.muli v24 c1_i32_3943
  let v4029 : BitVec 32 := Scalar.addi c0_i32_3944 v4028
  v4029.toNat
def k0_dev102 (d0 : Dev nD) : Nat :=
  let c0_i32_3986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3985 : BitVec 32 := 1#32
  let v4070 : BitVec 32 := Scalar.muli v24 c1_i32_3985
  let v4071 : BitVec 32 := Scalar.addi c0_i32_3986 v4070
  v4071.toNat
def k0_dev103 (d0 : Dev nD) : Nat :=
  let c0_i32_4028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4027 : BitVec 32 := 1#32
  let v4112 : BitVec 32 := Scalar.muli v24 c1_i32_4027
  let v4113 : BitVec 32 := Scalar.addi c0_i32_4028 v4112
  v4113.toNat
def k0_dev104 (d0 : Dev nD) : Nat :=
  let c0_i32_4070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4069 : BitVec 32 := 1#32
  let v4154 : BitVec 32 := Scalar.muli v24 c1_i32_4069
  let v4155 : BitVec 32 := Scalar.addi c0_i32_4070 v4154
  v4155.toNat
def k0_dev105 (d0 : Dev nD) : Nat :=
  let c0_i32_4112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4111 : BitVec 32 := 1#32
  let v4196 : BitVec 32 := Scalar.muli v24 c1_i32_4111
  let v4197 : BitVec 32 := Scalar.addi c0_i32_4112 v4196
  v4197.toNat
def k0_dev106 (d0 : Dev nD) : Nat :=
  let c0_i32_4154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4153 : BitVec 32 := 1#32
  let v4238 : BitVec 32 := Scalar.muli v24 c1_i32_4153
  let v4239 : BitVec 32 := Scalar.addi c0_i32_4154 v4238
  v4239.toNat
def k0_dev107 (d0 : Dev nD) : Nat :=
  let c0_i32_4196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4195 : BitVec 32 := 1#32
  let v4280 : BitVec 32 := Scalar.muli v24 c1_i32_4195
  let v4281 : BitVec 32 := Scalar.addi c0_i32_4196 v4280
  v4281.toNat
def k0_dev108 (d0 : Dev nD) : Nat :=
  let c0_i32_4238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4237 : BitVec 32 := 1#32
  let v4322 : BitVec 32 := Scalar.muli v24 c1_i32_4237
  let v4323 : BitVec 32 := Scalar.addi c0_i32_4238 v4322
  v4323.toNat
def k0_dev109 (d0 : Dev nD) : Nat :=
  let c0_i32_4280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4279 : BitVec 32 := 1#32
  let v4364 : BitVec 32 := Scalar.muli v24 c1_i32_4279
  let v4365 : BitVec 32 := Scalar.addi c0_i32_4280 v4364
  v4365.toNat
def k0_dev110 (d0 : Dev nD) : Nat :=
  let c0_i32_4322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4321 : BitVec 32 := 1#32
  let v4406 : BitVec 32 := Scalar.muli v24 c1_i32_4321
  let v4407 : BitVec 32 := Scalar.addi c0_i32_4322 v4406
  v4407.toNat
def k0_dev111 (d0 : Dev nD) : Nat :=
  let c0_i32_4364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4363 : BitVec 32 := 1#32
  let v4448 : BitVec 32 := Scalar.muli v24 c1_i32_4363
  let v4449 : BitVec 32 := Scalar.addi c0_i32_4364 v4448
  v4449.toNat
def k0_dev112 (d0 : Dev nD) : Nat :=
  let c0_i32_4406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4405 : BitVec 32 := 1#32
  let v4490 : BitVec 32 := Scalar.muli v24 c1_i32_4405
  let v4491 : BitVec 32 := Scalar.addi c0_i32_4406 v4490
  v4491.toNat
def k0_dev113 (d0 : Dev nD) : Nat :=
  let c0_i32_4448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4447 : BitVec 32 := 1#32
  let v4532 : BitVec 32 := Scalar.muli v24 c1_i32_4447
  let v4533 : BitVec 32 := Scalar.addi c0_i32_4448 v4532
  v4533.toNat
def k0_dev114 (d0 : Dev nD) : Nat :=
  let c0_i32_4490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4489 : BitVec 32 := 1#32
  let v4574 : BitVec 32 := Scalar.muli v24 c1_i32_4489
  let v4575 : BitVec 32 := Scalar.addi c0_i32_4490 v4574
  v4575.toNat
def k0_dev115 (d0 : Dev nD) : Nat :=
  let c0_i32_4532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4531 : BitVec 32 := 1#32
  let v4616 : BitVec 32 := Scalar.muli v24 c1_i32_4531
  let v4617 : BitVec 32 := Scalar.addi c0_i32_4532 v4616
  v4617.toNat
def k0_dev116 (d0 : Dev nD) : Nat :=
  let c0_i32_4574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4573 : BitVec 32 := 1#32
  let v4658 : BitVec 32 := Scalar.muli v24 c1_i32_4573
  let v4659 : BitVec 32 := Scalar.addi c0_i32_4574 v4658
  v4659.toNat
def k0_dev117 (d0 : Dev nD) : Nat :=
  let c0_i32_4616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4615 : BitVec 32 := 1#32
  let v4700 : BitVec 32 := Scalar.muli v24 c1_i32_4615
  let v4701 : BitVec 32 := Scalar.addi c0_i32_4616 v4700
  v4701.toNat
def k0_dev118 (d0 : Dev nD) : Nat :=
  let c0_i32_4658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4657 : BitVec 32 := 1#32
  let v4742 : BitVec 32 := Scalar.muli v24 c1_i32_4657
  let v4743 : BitVec 32 := Scalar.addi c0_i32_4658 v4742
  v4743.toNat
def k0_dev119 (d0 : Dev nD) : Nat :=
  let c0_i32_4700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4699 : BitVec 32 := 1#32
  let v4784 : BitVec 32 := Scalar.muli v24 c1_i32_4699
  let v4785 : BitVec 32 := Scalar.addi c0_i32_4700 v4784
  v4785.toNat
def k0_dev120 (d0 : Dev nD) : Nat :=
  let c0_i32_4742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4741 : BitVec 32 := 1#32
  let v4826 : BitVec 32 := Scalar.muli v24 c1_i32_4741
  let v4827 : BitVec 32 := Scalar.addi c0_i32_4742 v4826
  v4827.toNat
def k0_dev121 (d0 : Dev nD) : Nat :=
  let c0_i32_4784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4783 : BitVec 32 := 1#32
  let v4868 : BitVec 32 := Scalar.muli v24 c1_i32_4783
  let v4869 : BitVec 32 := Scalar.addi c0_i32_4784 v4868
  v4869.toNat
def k0_dev122 (d0 : Dev nD) : Nat :=
  let c0_i32_4826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4825 : BitVec 32 := 1#32
  let v4910 : BitVec 32 := Scalar.muli v24 c1_i32_4825
  let v4911 : BitVec 32 := Scalar.addi c0_i32_4826 v4910
  v4911.toNat
def k0_dev123 (d0 : Dev nD) : Nat :=
  let c0_i32_4868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4867 : BitVec 32 := 1#32
  let v4952 : BitVec 32 := Scalar.muli v24 c1_i32_4867
  let v4953 : BitVec 32 := Scalar.addi c0_i32_4868 v4952
  v4953.toNat
def k0_dev124 (d0 : Dev nD) : Nat :=
  let c0_i32_4910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4909 : BitVec 32 := 1#32
  let v4994 : BitVec 32 := Scalar.muli v24 c1_i32_4909
  let v4995 : BitVec 32 := Scalar.addi c0_i32_4910 v4994
  v4995.toNat
def k0_dev125 (d0 : Dev nD) : Nat :=
  let c0_i32_4952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4951 : BitVec 32 := 1#32
  let v5036 : BitVec 32 := Scalar.muli v24 c1_i32_4951
  let v5037 : BitVec 32 := Scalar.addi c0_i32_4952 v5036
  v5037.toNat
def k0_dev126 (d0 : Dev nD) : Nat :=
  let c0_i32_4994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4993 : BitVec 32 := 1#32
  let v5078 : BitVec 32 := Scalar.muli v24 c1_i32_4993
  let v5079 : BitVec 32 := Scalar.addi c0_i32_4994 v5078
  v5079.toNat
def k0_dev127 (d0 : Dev nD) : Nat :=
  let c0_i32_5032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5031 : BitVec 32 := 1#32
  let v5117 : BitVec 32 := Scalar.muli v24 c1_i32_5031
  let v5118 : BitVec 32 := Scalar.addi c0_i32_5032 v5117
  v5118.toNat
def k0_dev128 (d0 : Dev nD) : Nat :=
  let c0_i32_5071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5070 : BitVec 32 := 1#32
  let v5156 : BitVec 32 := Scalar.muli v24 c1_i32_5070
  let v5157 : BitVec 32 := Scalar.addi c0_i32_5071 v5156
  v5157.toNat
def k0_dev129 (d0 : Dev nD) : Nat :=
  let c0_i32_5110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5109 : BitVec 32 := 1#32
  let v5195 : BitVec 32 := Scalar.muli v24 c1_i32_5109
  let v5196 : BitVec 32 := Scalar.addi c0_i32_5110 v5195
  v5196.toNat
def k0_dev130 (d0 : Dev nD) : Nat :=
  let c0_i32_5149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5148 : BitVec 32 := 1#32
  let v5234 : BitVec 32 := Scalar.muli v24 c1_i32_5148
  let v5235 : BitVec 32 := Scalar.addi c0_i32_5149 v5234
  v5235.toNat
def k0_dev131 (d0 : Dev nD) : Nat :=
  let c0_i32_5188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5187 : BitVec 32 := 1#32
  let v5273 : BitVec 32 := Scalar.muli v24 c1_i32_5187
  let v5274 : BitVec 32 := Scalar.addi c0_i32_5188 v5273
  v5274.toNat
def k0_dev132 (d0 : Dev nD) : Nat :=
  let c0_i32_5227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5226 : BitVec 32 := 1#32
  let v5312 : BitVec 32 := Scalar.muli v24 c1_i32_5226
  let v5313 : BitVec 32 := Scalar.addi c0_i32_5227 v5312
  v5313.toNat
def k0_dev133 (d0 : Dev nD) : Nat :=
  let c0_i32_5266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5265 : BitVec 32 := 1#32
  let v5351 : BitVec 32 := Scalar.muli v24 c1_i32_5265
  let v5352 : BitVec 32 := Scalar.addi c0_i32_5266 v5351
  v5352.toNat
def k0_dev134 (d0 : Dev nD) : Nat :=
  let c0_i32_5305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5304 : BitVec 32 := 1#32
  let v5390 : BitVec 32 := Scalar.muli v24 c1_i32_5304
  let v5391 : BitVec 32 := Scalar.addi c0_i32_5305 v5390
  v5391.toNat
def k0_dev135 (d0 : Dev nD) : Nat :=
  let c0_i32_5344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5343 : BitVec 32 := 1#32
  let v5429 : BitVec 32 := Scalar.muli v24 c1_i32_5343
  let v5430 : BitVec 32 := Scalar.addi c0_i32_5344 v5429
  v5430.toNat
def k0_dev136 (d0 : Dev nD) : Nat :=
  let c0_i32_5383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5382 : BitVec 32 := 1#32
  let v5468 : BitVec 32 := Scalar.muli v24 c1_i32_5382
  let v5469 : BitVec 32 := Scalar.addi c0_i32_5383 v5468
  v5469.toNat
def k0_dev137 (d0 : Dev nD) : Nat :=
  let c0_i32_5422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5421 : BitVec 32 := 1#32
  let v5507 : BitVec 32 := Scalar.muli v24 c1_i32_5421
  let v5508 : BitVec 32 := Scalar.addi c0_i32_5422 v5507
  v5508.toNat
def k0_dev138 (d0 : Dev nD) : Nat :=
  let c0_i32_5461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5460 : BitVec 32 := 1#32
  let v5546 : BitVec 32 := Scalar.muli v24 c1_i32_5460
  let v5547 : BitVec 32 := Scalar.addi c0_i32_5461 v5546
  v5547.toNat
def k0_dev139 (d0 : Dev nD) : Nat :=
  let c0_i32_5500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5499 : BitVec 32 := 1#32
  let v5585 : BitVec 32 := Scalar.muli v24 c1_i32_5499
  let v5586 : BitVec 32 := Scalar.addi c0_i32_5500 v5585
  v5586.toNat
def k0_dev140 (d0 : Dev nD) : Nat :=
  let c0_i32_5539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5538 : BitVec 32 := 1#32
  let v5624 : BitVec 32 := Scalar.muli v24 c1_i32_5538
  let v5625 : BitVec 32 := Scalar.addi c0_i32_5539 v5624
  v5625.toNat
def k0_dev141 (d0 : Dev nD) : Nat :=
  let c0_i32_5578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5577 : BitVec 32 := 1#32
  let v5663 : BitVec 32 := Scalar.muli v24 c1_i32_5577
  let v5664 : BitVec 32 := Scalar.addi c0_i32_5578 v5663
  v5664.toNat
def k0_dev142 (d0 : Dev nD) : Nat :=
  let c0_i32_5617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5616 : BitVec 32 := 1#32
  let v5702 : BitVec 32 := Scalar.muli v24 c1_i32_5616
  let v5703 : BitVec 32 := Scalar.addi c0_i32_5617 v5702
  v5703.toNat
def k0_dev143 (d0 : Dev nD) : Nat :=
  let c0_i32_5656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5655 : BitVec 32 := 1#32
  let v5741 : BitVec 32 := Scalar.muli v24 c1_i32_5655
  let v5742 : BitVec 32 := Scalar.addi c0_i32_5656 v5741
  v5742.toNat
def k0_dev144 (d0 : Dev nD) : Nat :=
  let c0_i32_5695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5694 : BitVec 32 := 1#32
  let v5780 : BitVec 32 := Scalar.muli v24 c1_i32_5694
  let v5781 : BitVec 32 := Scalar.addi c0_i32_5695 v5780
  v5781.toNat
def k0_dev145 (d0 : Dev nD) : Nat :=
  let c0_i32_5734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5733 : BitVec 32 := 1#32
  let v5819 : BitVec 32 := Scalar.muli v24 c1_i32_5733
  let v5820 : BitVec 32 := Scalar.addi c0_i32_5734 v5819
  v5820.toNat
def k0_dev146 (d0 : Dev nD) : Nat :=
  let c0_i32_5773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5772 : BitVec 32 := 1#32
  let v5858 : BitVec 32 := Scalar.muli v24 c1_i32_5772
  let v5859 : BitVec 32 := Scalar.addi c0_i32_5773 v5858
  v5859.toNat
def k0_dev147 (d0 : Dev nD) : Nat :=
  let c0_i32_5812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5811 : BitVec 32 := 1#32
  let v5897 : BitVec 32 := Scalar.muli v24 c1_i32_5811
  let v5898 : BitVec 32 := Scalar.addi c0_i32_5812 v5897
  v5898.toNat
def k0_dev148 (d0 : Dev nD) : Nat :=
  let c0_i32_5851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5850 : BitVec 32 := 1#32
  let v5936 : BitVec 32 := Scalar.muli v24 c1_i32_5850
  let v5937 : BitVec 32 := Scalar.addi c0_i32_5851 v5936
  v5937.toNat
def k0_dev149 (d0 : Dev nD) : Nat :=
  let c0_i32_5890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5889 : BitVec 32 := 1#32
  let v5975 : BitVec 32 := Scalar.muli v24 c1_i32_5889
  let v5976 : BitVec 32 := Scalar.addi c0_i32_5890 v5975
  v5976.toNat
def k0_dev150 (d0 : Dev nD) : Nat :=
  let c0_i32_5929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5928 : BitVec 32 := 1#32
  let v6014 : BitVec 32 := Scalar.muli v24 c1_i32_5928
  let v6015 : BitVec 32 := Scalar.addi c0_i32_5929 v6014
  v6015.toNat
def k0_dev151 (d0 : Dev nD) : Nat :=
  let c0_i32_5968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5967 : BitVec 32 := 1#32
  let v6053 : BitVec 32 := Scalar.muli v24 c1_i32_5967
  let v6054 : BitVec 32 := Scalar.addi c0_i32_5968 v6053
  v6054.toNat
def k0_dev152 (d0 : Dev nD) : Nat :=
  let c0_i32_6007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6006 : BitVec 32 := 1#32
  let v6092 : BitVec 32 := Scalar.muli v24 c1_i32_6006
  let v6093 : BitVec 32 := Scalar.addi c0_i32_6007 v6092
  v6093.toNat
def k0_dev153 (d0 : Dev nD) : Nat :=
  let c0_i32_6046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6045 : BitVec 32 := 1#32
  let v6131 : BitVec 32 := Scalar.muli v24 c1_i32_6045
  let v6132 : BitVec 32 := Scalar.addi c0_i32_6046 v6131
  v6132.toNat
def k0_dev154 (d0 : Dev nD) : Nat :=
  let c0_i32_6085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6084 : BitVec 32 := 1#32
  let v6170 : BitVec 32 := Scalar.muli v24 c1_i32_6084
  let v6171 : BitVec 32 := Scalar.addi c0_i32_6085 v6170
  v6171.toNat
def k0_dev155 (d0 : Dev nD) : Nat :=
  let c0_i32_6124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6123 : BitVec 32 := 1#32
  let v6209 : BitVec 32 := Scalar.muli v24 c1_i32_6123
  let v6210 : BitVec 32 := Scalar.addi c0_i32_6124 v6209
  v6210.toNat
def k0_dev156 (d0 : Dev nD) : Nat :=
  let c0_i32_6163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6162 : BitVec 32 := 1#32
  let v6248 : BitVec 32 := Scalar.muli v24 c1_i32_6162
  let v6249 : BitVec 32 := Scalar.addi c0_i32_6163 v6248
  v6249.toNat
def k0_dev157 (d0 : Dev nD) : Nat :=
  let c0_i32_6202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6201 : BitVec 32 := 1#32
  let v6287 : BitVec 32 := Scalar.muli v24 c1_i32_6201
  let v6288 : BitVec 32 := Scalar.addi c0_i32_6202 v6287
  v6288.toNat
@[reducible] def k0_t3_loop : Scf.Loop 32 :=
  let c0_i32_6245 : BitVec 32 := 0#32
  let c32_i32_6246 : BitVec 32 := 32#32
  let v6336 : BitVec 32 := Scalar.addi c0_i32_6245 c32_i32_6246
  let c1_i32_6247 : BitVec 32 := 1#32
  ⟨c0_i32_6245, v6336, c1_i32_6247⟩
def k0_off6 (k0_t3 : Fin k0_t3_loop.trips) : Fin 2 → Nat :=
  let c0_i32_6245 : BitVec 32 := 0#32
  let c1_i32_6247 : BitVec 32 := 1#32
  let arg17 : BitVec 32 := Scf.iv c0_i32_6245 c1_i32_6247 k0_t3
  let c512_i32_7554 : BitVec 32 := 512#32
  let v7643 : BitVec 32 := Scalar.muli arg17 c512_i32_7554
  let v7644 : Index := Scalar.indexCast v7643
  let c0_7555 : Index := 0#32
  ![v7644.toNat, 0]
def k0_dev158 (d0 : Dev nD) : Nat :=
  let c0_i32_6265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6264 : BitVec 32 := 1#32
  let v6355 : BitVec 32 := Scalar.muli v24 c1_i32_6264
  let v6356 : BitVec 32 := Scalar.addi c0_i32_6265 v6355
  v6356.toNat
def k0_dev159 (d0 : Dev nD) : Nat :=
  let c0_i32_6307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6306 : BitVec 32 := 1#32
  let v6397 : BitVec 32 := Scalar.muli v24 c1_i32_6306
  let v6398 : BitVec 32 := Scalar.addi c0_i32_6307 v6397
  v6398.toNat
def k0_dev160 (d0 : Dev nD) : Nat :=
  let c0_i32_6349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6348 : BitVec 32 := 1#32
  let v6439 : BitVec 32 := Scalar.muli v24 c1_i32_6348
  let v6440 : BitVec 32 := Scalar.addi c0_i32_6349 v6439
  v6440.toNat
def k0_dev161 (d0 : Dev nD) : Nat :=
  let c0_i32_6391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6390 : BitVec 32 := 1#32
  let v6481 : BitVec 32 := Scalar.muli v24 c1_i32_6390
  let v6482 : BitVec 32 := Scalar.addi c0_i32_6391 v6481
  v6482.toNat
def k0_dev162 (d0 : Dev nD) : Nat :=
  let c0_i32_6433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6432 : BitVec 32 := 1#32
  let v6523 : BitVec 32 := Scalar.muli v24 c1_i32_6432
  let v6524 : BitVec 32 := Scalar.addi c0_i32_6433 v6523
  v6524.toNat
def k0_dev163 (d0 : Dev nD) : Nat :=
  let c0_i32_6475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6474 : BitVec 32 := 1#32
  let v6565 : BitVec 32 := Scalar.muli v24 c1_i32_6474
  let v6566 : BitVec 32 := Scalar.addi c0_i32_6475 v6565
  v6566.toNat
def k0_dev164 (d0 : Dev nD) : Nat :=
  let c0_i32_6517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6516 : BitVec 32 := 1#32
  let v6607 : BitVec 32 := Scalar.muli v24 c1_i32_6516
  let v6608 : BitVec 32 := Scalar.addi c0_i32_6517 v6607
  v6608.toNat
def k0_dev165 (d0 : Dev nD) : Nat :=
  let c0_i32_6559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6558 : BitVec 32 := 1#32
  let v6649 : BitVec 32 := Scalar.muli v24 c1_i32_6558
  let v6650 : BitVec 32 := Scalar.addi c0_i32_6559 v6649
  v6650.toNat
def k0_dev166 (d0 : Dev nD) : Nat :=
  let c0_i32_6601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6600 : BitVec 32 := 1#32
  let v6691 : BitVec 32 := Scalar.muli v24 c1_i32_6600
  let v6692 : BitVec 32 := Scalar.addi c0_i32_6601 v6691
  v6692.toNat
def k0_dev167 (d0 : Dev nD) : Nat :=
  let c0_i32_6643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6642 : BitVec 32 := 1#32
  let v6733 : BitVec 32 := Scalar.muli v24 c1_i32_6642
  let v6734 : BitVec 32 := Scalar.addi c0_i32_6643 v6733
  v6734.toNat
def k0_dev168 (d0 : Dev nD) : Nat :=
  let c0_i32_6685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6684 : BitVec 32 := 1#32
  let v6775 : BitVec 32 := Scalar.muli v24 c1_i32_6684
  let v6776 : BitVec 32 := Scalar.addi c0_i32_6685 v6775
  v6776.toNat
def k0_dev169 (d0 : Dev nD) : Nat :=
  let c0_i32_6727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6726 : BitVec 32 := 1#32
  let v6817 : BitVec 32 := Scalar.muli v24 c1_i32_6726
  let v6818 : BitVec 32 := Scalar.addi c0_i32_6727 v6817
  v6818.toNat
def k0_dev170 (d0 : Dev nD) : Nat :=
  let c0_i32_6769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6768 : BitVec 32 := 1#32
  let v6859 : BitVec 32 := Scalar.muli v24 c1_i32_6768
  let v6860 : BitVec 32 := Scalar.addi c0_i32_6769 v6859
  v6860.toNat
def k0_dev171 (d0 : Dev nD) : Nat :=
  let c0_i32_6811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6810 : BitVec 32 := 1#32
  let v6901 : BitVec 32 := Scalar.muli v24 c1_i32_6810
  let v6902 : BitVec 32 := Scalar.addi c0_i32_6811 v6901
  v6902.toNat
def k0_dev172 (d0 : Dev nD) : Nat :=
  let c0_i32_6853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6852 : BitVec 32 := 1#32
  let v6943 : BitVec 32 := Scalar.muli v24 c1_i32_6852
  let v6944 : BitVec 32 := Scalar.addi c0_i32_6853 v6943
  v6944.toNat
def k0_dev173 (d0 : Dev nD) : Nat :=
  let c0_i32_6895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6894 : BitVec 32 := 1#32
  let v6985 : BitVec 32 := Scalar.muli v24 c1_i32_6894
  let v6986 : BitVec 32 := Scalar.addi c0_i32_6895 v6985
  v6986.toNat
def k0_dev174 (d0 : Dev nD) : Nat :=
  let c0_i32_6937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6936 : BitVec 32 := 1#32
  let v7027 : BitVec 32 := Scalar.muli v24 c1_i32_6936
  let v7028 : BitVec 32 := Scalar.addi c0_i32_6937 v7027
  v7028.toNat
def k0_dev175 (d0 : Dev nD) : Nat :=
  let c0_i32_6979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6978 : BitVec 32 := 1#32
  let v7069 : BitVec 32 := Scalar.muli v24 c1_i32_6978
  let v7070 : BitVec 32 := Scalar.addi c0_i32_6979 v7069
  v7070.toNat
def k0_dev176 (d0 : Dev nD) : Nat :=
  let c0_i32_7021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7020 : BitVec 32 := 1#32
  let v7111 : BitVec 32 := Scalar.muli v24 c1_i32_7020
  let v7112 : BitVec 32 := Scalar.addi c0_i32_7021 v7111
  v7112.toNat
def k0_dev177 (d0 : Dev nD) : Nat :=
  let c0_i32_7063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7062 : BitVec 32 := 1#32
  let v7153 : BitVec 32 := Scalar.muli v24 c1_i32_7062
  let v7154 : BitVec 32 := Scalar.addi c0_i32_7063 v7153
  v7154.toNat
def k0_dev178 (d0 : Dev nD) : Nat :=
  let c0_i32_7105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7104 : BitVec 32 := 1#32
  let v7195 : BitVec 32 := Scalar.muli v24 c1_i32_7104
  let v7196 : BitVec 32 := Scalar.addi c0_i32_7105 v7195
  v7196.toNat
def k0_dev179 (d0 : Dev nD) : Nat :=
  let c0_i32_7147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7146 : BitVec 32 := 1#32
  let v7237 : BitVec 32 := Scalar.muli v24 c1_i32_7146
  let v7238 : BitVec 32 := Scalar.addi c0_i32_7147 v7237
  v7238.toNat
def k0_dev180 (d0 : Dev nD) : Nat :=
  let c0_i32_7189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7188 : BitVec 32 := 1#32
  let v7279 : BitVec 32 := Scalar.muli v24 c1_i32_7188
  let v7280 : BitVec 32 := Scalar.addi c0_i32_7189 v7279
  v7280.toNat
def k0_dev181 (d0 : Dev nD) : Nat :=
  let c0_i32_7231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7230 : BitVec 32 := 1#32
  let v7321 : BitVec 32 := Scalar.muli v24 c1_i32_7230
  let v7322 : BitVec 32 := Scalar.addi c0_i32_7231 v7321
  v7322.toNat
def k0_dev182 (d0 : Dev nD) : Nat :=
  let c0_i32_7273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7272 : BitVec 32 := 1#32
  let v7363 : BitVec 32 := Scalar.muli v24 c1_i32_7272
  let v7364 : BitVec 32 := Scalar.addi c0_i32_7273 v7363
  v7364.toNat
def k0_dev183 (d0 : Dev nD) : Nat :=
  let c0_i32_7315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7314 : BitVec 32 := 1#32
  let v7405 : BitVec 32 := Scalar.muli v24 c1_i32_7314
  let v7406 : BitVec 32 := Scalar.addi c0_i32_7315 v7405
  v7406.toNat
def k0_dev184 (d0 : Dev nD) : Nat :=
  let c0_i32_7357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7356 : BitVec 32 := 1#32
  let v7447 : BitVec 32 := Scalar.muli v24 c1_i32_7356
  let v7448 : BitVec 32 := Scalar.addi c0_i32_7357 v7447
  v7448.toNat
def k0_dev185 (d0 : Dev nD) : Nat :=
  let c0_i32_7399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7398 : BitVec 32 := 1#32
  let v7489 : BitVec 32 := Scalar.muli v24 c1_i32_7398
  let v7490 : BitVec 32 := Scalar.addi c0_i32_7399 v7489
  v7490.toNat
def k0_dev186 (d0 : Dev nD) : Nat :=
  let c0_i32_7441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7440 : BitVec 32 := 1#32
  let v7531 : BitVec 32 := Scalar.muli v24 c1_i32_7440
  let v7532 : BitVec 32 := Scalar.addi c0_i32_7441 v7531
  v7532.toNat
def k0_dev187 (d0 : Dev nD) : Nat :=
  let c0_i32_7483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7482 : BitVec 32 := 1#32
  let v7573 : BitVec 32 := Scalar.muli v24 c1_i32_7482
  let v7574 : BitVec 32 := Scalar.addi c0_i32_7483 v7573
  v7574.toNat
def k0_dev188 (d0 : Dev nD) : Nat :=
  let c0_i32_7525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7524 : BitVec 32 := 1#32
  let v7615 : BitVec 32 := Scalar.muli v24 c1_i32_7524
  let v7616 : BitVec 32 := Scalar.addi c0_i32_7525 v7615
  v7616.toNat
def k0_dev189 (d0 : Dev nD) : Nat :=
  let c0_i32_7556_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7555_r0 : BitVec 32 := 1#32
  let v7644_r0 : BitVec 32 := Scalar.muli v13 c1_i32_7555_r0
  let v7645_r0 : BitVec 32 := Scalar.addi c0_i32_7556_r0 v7644_r0
  v7645_r0.toNat
def k0_dev190 (d0 : Dev nD) : Nat :=
  let c0_i32_7559_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7558_r0 : BitVec 32 := 1#32
  let v7646_r0 : BitVec 32 := Scalar.muli v24 c1_i32_7558_r0
  let v7647_r0 : BitVec 32 := Scalar.addi c0_i32_7559_r0 v7646_r0
  v7647_r0.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x16384, .bf16⟩
  | .hbm, ⟨2, _⟩ => ⟨S16384x256, .bf16⟩
  | .hbm, ⟨3, _⟩ => ⟨S256x16384, .bf16⟩
  | .hbm, ⟨4, _⟩ => ⟨S16384x256, .bf16⟩
  | .hbm, ⟨5, _⟩ => ⟨S256x16384, .bf16⟩
  | .hbm, ⟨6, _⟩ => ⟨S16384x256, .bf16⟩
  | .hbm, ⟨7, _⟩ => ⟨S16384x16384, .f32⟩
  | .hbm, ⟨8, _⟩ => ⟨S16384x16384, .bf16⟩
  | .hbm, ⟨9, _⟩ => ⟨S_, .bf16⟩
  | .hbm, ⟨10, _⟩ => ⟨S16384x16384, .bf16⟩
  | .hbm, ⟨11, _⟩ => ⟨S16384x16384, .bf16⟩
  | .hbm, ⟨12, _⟩ => ⟨S16384x256, .f32⟩
  | .hbm, ⟨13, _⟩ => ⟨S16384x256, .bf16⟩
  | .hbm, ⟨14, _⟩ => ⟨S16384x16384, .f32⟩
  | .hbm, ⟨15, _⟩ => ⟨S16384x16384, .bf16⟩
  | .hbm, ⟨16, _⟩ => ⟨S_, .bf16⟩
  | .hbm, ⟨17, _⟩ => ⟨S16384x16384, .bf16⟩
  | .hbm, ⟨18, _⟩ => ⟨S16384x16384, .bf16⟩
  | .hbm, ⟨19, _⟩ => ⟨S16384x256, .f32⟩
  | .hbm, ⟨20, _⟩ => ⟨S16384x256, .bf16⟩
  | .hbm, ⟨21, _⟩ => ⟨S16384x16384, .f32⟩
  | .hbm, ⟨22, _⟩ => ⟨S16384x16384, .bf16⟩
  | .hbm, ⟨23, _⟩ => ⟨S_, .bf16⟩
  | .hbm, ⟨24, _⟩ => ⟨S16384x16384, .bf16⟩
  | .hbm, ⟨25, _⟩ => ⟨S16384x16384, .bf16⟩
  | .hbm, ⟨26, _⟩ => ⟨S16384x256, .f32⟩
  | .hbm, ⟨27, _⟩ => ⟨S16384x256, .bf16⟩
  | .hbm, ⟨28, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Prog.lean ====
/-
The kernel's body as a structured program: one all-gather step and one reduce-scatter step as functions of the step
number, a layer as their loops, the whole as three layers between two handshakes.
-/
module

public import proofs.«01_k».proof.Proof.Gen.KernelIdeal

@[expose] public section

noncomputable section

namespace Cert.RingMlp

open Cert.KernelIdeal Cert.KernelIdeal.Gen
open Idealize.ShloMosaic
open Idealize.ShloMosaic.TcCoe
open Idealize.SL.Sem
open Idealize.ShloMosaic.Tactic

variable {F : FTy → Type} [FloatOps F]

/-! ## The memrefs -/

abbrev xg : Memref sig .tc .vmem S16384x256 .bf16 := Memref.whole cc0_scratch0
abbrev pb : Memref sig .tc .vmem S16384x256 .bf16 := Memref.whole cc0_scratch1
abbrev stg : Memref sig .tc .vmem S32x512x256 .f32 := Memref.whole cc0_scratch2
abbrev cm : Memref sig .tc .vmem S32x512x256 .bf16 := Memref.whole cc0_scratch3
abbrev wiM : Memref sig .tc .vmem S256x512 .bf16 := Memref.whole cc0_scratch4
abbrev woM : Memref sig .tc .vmem S512x256 .bf16 := Memref.whole cc0_scratch5

theorem inb_slot (s : Fin 32) : ∀ a, (![s.val, 0, 0] : Fin 3 → Nat) a + S1x512x256.size a ≤ S32x512x256.size a := by
  revert s; decide
theorem inb_sem (s : Fin 31) : ∀ a, (![s.val] : Fin 1 → Nat) a + S1.size a ≤ S31.size a := by
  revert s; decide
theorem words_slot (s : Fin 32) :
    (Rect.unit (s := S32x512x256) ![s.val, 0, 0] S1x512x256.size (inb_slot s)).WholeWords (EltTy.packing .bf16) := by
  revert s; decide
theorem packed_slot (s : Fin 32) :
    (Rect.unit (s := S32x512x256) ![s.val, 0, 0] S1x512x256.size (inb_slot s)).PackedRows (EltTy.packing .bf16) := by
  revert s; decide

/-- Slot `s` of a three-dimensional buffer, as the loads and stores address it. -/
abbrev slotR (s : Fin 32) : Rect S32x512x256 := Rect.unit (s := S32x512x256) ![s.val, 0, 0] S1x512x256.size (inb_slot s)

/-- Slot `s` of the all-gather's buffer, and of the reduce-scatter's, as the transfers address them. -/
abbrev cmS (s : Fin 32) : Memref sig .tc .vmem S512x256 .bf16 :=
  (cm.slice (slotR s) (fun _ => rfl)).squeeze S512x256 squeezes_S1x512x256_S512x256
abbrev stgS (s : Fin 32) : Memref sig .tc .vmem S512x256 .f32 :=
  (stg.slice (slotR s) (fun _ => rfl)).squeeze S512x256 squeezes_S1x512x256_S512x256

/-- The receive semaphores of step `s`. -/
abbrev agSem (s : Fin 31) : DmaSem sig :=
  ((cc0_scratch6.slice (Rect.unit (s := S31) ![s.val] S1.size (inb_sem s))).squeeze S_ squeezes_S1_S_).sem
abbrev rsSem (s : Fin 31) : DmaSem sig :=
  ((cc0_scratch7.slice (Rect.unit (s := S31) ![s.val] S1.size (inb_sem s))).squeeze S_ squeezes_S1_S_).sem
abbrev sendSem : DmaSem sig := (cc0_scratch8 : DmaSems sig S_).sem
abbrev barSem : Sem sig := (SemArray.scalar (sig.barrier 0 rfl) : Sems sig S_).sem
abbrev bar2Sem : Sem sig := (cc0_scoped0 : Sems sig S_).sem

/-- The slot step `s` sends from: the one step `s - 1` filled, slot 31 for the first; the slot it fills. -/
def srcI (s : Fin 31) : Fin 32 := ⟨(s.val + 31) % 32, Nat.mod_lt _ (by decide)⟩
def dstI (s : Fin 31) : Fin 32 := ⟨s.val, Nat.lt_succ_of_lt s.isLt⟩

/-! ## The devices and the chunks -/

/-- The right neighbour, as the transfers compute it. -/
abbrev rgt (d : Dev nD) : Dev nD := ⟨k0_dev3 d, k0_dev3_lt d⟩

theorem off2_eq (d : Dev nD) (s : Fin 31) :
    k0_off2 d 1#32 (BitVec.ofNat 32 s.val) = ![512 * ((d.val + 31 - s.val) % 32), 0] := by
  revert d s; decide +kernel
theorem off2_eq' (d : Dev nD) (s : Fin 30) :
    k0_off2 d 2#32 (BitVec.ofNat 32 s.val) = ![512 * ((d.val + 30 - s.val) % 32), 0] := by
  revert d s; decide +kernel
theorem off4_eq (d : Dev nD) : k0_off4 d = ![512 * ((d.val + 31) % 32), 0] := by
  revert d; decide +kernel

theorem inb_chunk (j : Fin 32) : ∀ a, (![512 * j.val, 0] : Fin 2 → Nat) a + S512x256.size a ≤ S16384x256.size a := by
  revert j; decide
theorem packed_chunk (j : Fin 32) :
    (Rect.unit (s := S16384x256) ![512 * j.val, 0] S512x256.size (inb_chunk j)).PackedRows (EltTy.packing .bf16) := by
  revert j; decide

/-! ## The steps -/

/-- The requests a program of the kernel makes. -/
abbrev Eff (F : FTy → Type) := TpuEff nD τ sig (Elt F) Λ₀ .tc

/-- A block's rectangle in the whole buffers of blocks. -/
abbrev chR (off : Fin 2 → Nat) (h : ∀ a, off a + S512x256.size a ≤ S16384x256.size a) : Rect S16384x256 :=
  Rect.unit (s := S16384x256) off S512x256.size h

/-- The transfer of all-gather step `s` to device `t`, awaited on both sides. -/
def agXfer (t : Dev nD) (s : Fin 31) (K : Prog (Eff F) PUnit) : Prog (Eff F) PUnit :=
  .op (.enqueueDma (cmS (srcI s)) (.remote (Dev.tc t) (cmS (dstI s)) (.dma sendSem)) (.dma (agSem s))
      (((Memref.isWhole_whole cc0_scratch3).wordExact_slice rfl _ (words_slot (srcI s))).reshape _ _)
      (((Memref.isWhole_whole cc0_scratch3).wordExact_slice rfl _ (words_slot (dstI s))).reshape _ _)
      ⟨⟨rfl, Or.inl rfl⟩, trivial⟩) fun _ =>
  .op (.waitDma2 (agSem s) (cmS (srcI s)) (cmS (dstI s))
      (((Memref.isWhole_whole cc0_scratch3).wordExact_slice rfl _ (words_slot (srcI s))).reshape _ _)
      (((Memref.isWhole_whole cc0_scratch3).wordExact_slice rfl _ (words_slot (dstI s))).reshape _ _)) fun _ =>
  .op (.waitDma2 sendSem (cmS (dstI s)) (cmS (srcI s))
      (((Memref.isWhole_whole cc0_scratch3).wordExact_slice rfl _ (words_slot (dstI s))).reshape _ _)
      (((Memref.isWhole_whole cc0_scratch3).wordExact_slice rfl _ (words_slot (srcI s))).reshape _ _)) fun _ => K

/-- The received block put into the whole buffer, at offset `off`. -/
def agCopy (s : Fin 31) (off : Fin 2 → Nat) (hin : ∀ a, off a + S512x256.size a ≤ S16384x256.size a)
    (hpk : (chR off hin).PackedRows (EltTy.packing .bf16)) (K : Prog (Eff F) PUnit) : Prog (Eff F) PUnit :=
  .op (.load cm (slotR (dstI s)).toLoadRect (View.loadsAt_vmem h_S1x512x256)) fun (v : Vec F S1x512x256 .bf16) =>
  .op (.load xg (chR off hin).toLoadRect (View.loadsAt_vmem h_S512x256)) fun (_ : Vec F S512x256 .bf16) =>
  .op (.store xg (chR off hin)
      (shapeCast S512x256 (shapeCast S512x256 v shapeCasts_S1x512x256_S512x256) shapeCasts_S512x256_S512x256)
      Finset.univ (View.stores_vmem h_S512x256 ((Memref.isWhole_whole cc0_scratch0).storeExact_slice rfl _ hpk)
        (fun _ => rfl)) (.inl rfl)) fun _ => K

theorem off2_packed (d : Dev nD) (s : Fin 31) :
    ∃ h : ∀ a, k0_off2 d 1#32 (BitVec.ofNat 32 s.val) a + S512x256.size a ≤ S16384x256.size a,
      (chR (k0_off2 d 1#32 (BitVec.ofNat 32 s.val)) h).PackedRows (EltTy.packing .bf16) := by
  rw [off2_eq]
  exact ⟨inb_chunk ⟨_, Nat.mod_lt _ (by decide)⟩, packed_chunk ⟨_, Nat.mod_lt _ (by decide)⟩⟩

theorem off2_inb' (d : Dev nD) (s : Fin 30) :
    ∀ a, k0_off2 d 2#32 (BitVec.ofNat 32 s.val) a + S512x256.size a ≤ S16384x256.size a := by
  rw [off2_eq']
  exact inb_chunk ⟨_, Nat.mod_lt _ (by decide)⟩

/-- One all-gather step. -/
def agStep (d : Dev nD) (s : Fin 31) (K : Prog (Eff F) PUnit) : Prog (Eff F) PUnit :=
  agXfer (rgt d) s <|
  agCopy s (k0_off2 d 1#32 (BitVec.ofNat 32 s.val)) (off2_packed d s).1 (off2_packed d s).2 K

/-- The last `n` all-gather steps. -/
def agLoop (d : Dev nD) : (n : Nat) → n ≤ 31 → Prog (Eff F) PUnit → Prog (Eff F) PUnit
  | 0, _, K => K
  | n + 1, h, K => agStep d ⟨30 - n, Nat.lt_succ_of_le (Nat.sub_le _ _)⟩ (agLoop d n (Nat.le_of_succ_le h) K)

/-- The transfer of reduce-scatter step `s` to device `t`, awaited on both sides. -/
def rsXfer (t : Dev nD) (s : Fin 31) (K : Prog (Eff F) PUnit) : Prog (Eff F) PUnit :=
  .op (.enqueueDma (stgS (srcI s)) (.remote (Dev.tc t) (stgS (dstI s)) (.dma sendSem)) (.dma (rsSem s))
      ((View.wordExact_bits rfl).reshape _ _) ((View.wordExact_bits rfl).reshape _ _)
      ⟨⟨rfl, Or.inl rfl⟩, trivial⟩) fun _ =>
  .op (.waitDma2 (rsSem s) (stgS (dstI s)) (stgS (dstI s))
      ((View.wordExact_bits rfl).reshape _ _) ((View.wordExact_bits rfl).reshape _ _)) fun _ =>
  .op (.waitDma2 sendSem (stgS (dstI s)) (stgS (srcI s))
      ((View.wordExact_bits rfl).reshape _ _) ((View.wordExact_bits rfl).reshape _ _)) fun _ => K

/-- The received partial sum with this device's block at offset `off` added, in place. -/
def rsAdd (s : Fin 31) (off : Fin 2 → Nat) (hin : ∀ a, off a + S512x256.size a ≤ S16384x256.size a)
    (K : Prog (Eff F) PUnit) : Prog (Eff F) PUnit :=
  .op (.load stg (slotR (dstI s)).toLoadRect (View.loadsAt_vmem h_S1x512x256)) fun (v : Vec F S1x512x256 .f32) =>
  .op (.load pb (chR off hin).toLoadRect (View.loadsAt_vmem h_S512x256)) fun (w : Vec F S512x256 .bf16) =>
  .op (.load stg (slotR (dstI s)).toLoadRect (View.loadsAt_vmem h_S1x512x256)) fun (_ : Vec F S1x512x256 .f32) =>
  .op (.store stg (slotR (dstI s))
      (shapeCast S1x512x256 (addf (shapeCast S512x256 v shapeCasts_S1x512x256_S512x256) (extf .f32 w bitsLt_bf16_f32))
        shapeCasts_S512x256_S1x512x256)
      Finset.univ (View.stores_vmem_bits_univ h_S1x512x256 rfl) (.inl rfl)) fun _ => K

/-- One reduce-scatter step but the last. -/
def rsStep (d : Dev nD) (s : Fin 30) (K : Prog (Eff F) PUnit) : Prog (Eff F) PUnit :=
  rsXfer (rgt d) ⟨s.val, Nat.lt_succ_of_lt s.isLt⟩ <|
  rsAdd ⟨s.val, Nat.lt_succ_of_lt s.isLt⟩ (k0_off2 d 2#32 (BitVec.ofNat 32 s.val)) (off2_inb' d s) K

/-- The last `n` of them. -/
def rsLoop (d : Dev nD) : (n : Nat) → n ≤ 30 → Prog (Eff F) PUnit → Prog (Eff F) PUnit
  | 0, _, K => K
  | n + 1, h, K => rsStep d ⟨29 - n, Nat.lt_succ_of_le (Nat.sub_le _ _)⟩ (rsLoop d n (Nat.le_of_succ_le h) K)

/-! ## A layer -/

/-- A weight copied to its scratch buffer. -/
def cpWi (a : Memref sig .tc .vmem S256x512 .bf16) (K : Prog (Eff F) PUnit) : Prog (Eff F) PUnit :=
  .op (.load a (Rect.unit (s := S256x512) ![0, 0] S256x512.size inb_S256x512_S256x512_0_0).toLoadRect
    (View.loadsAt_vmem h_S256x512)) fun (v : Vec F S256x512 .bf16) =>
  .op (.load wiM (Rect.unit (s := S256x512) ![0, 0] S256x512.size inb_S256x512_S256x512_0_0).toLoadRect
    (View.loadsAt_vmem h_S256x512)) fun (_ : Vec F S256x512 .bf16) =>
  .op (.store wiM (Rect.unit (s := S256x512) ![0, 0] S256x512.size inb_S256x512_S256x512_0_0)
      (shapeCast S256x512 (shapeCast S256x512 v shapeCasts_S256x512_S256x512) shapeCasts_S256x512_S256x512)
      Finset.univ (View.stores_vmem h_S256x512 ((Memref.isWhole_whole cc0_scratch4).storeExact_slice rfl _
        packedbf16_S256x512_S256x512_0_0) (fun _ => rfl)) (.inl rfl)) fun _ => K

def cpWo (a : Memref sig .tc .vmem S512x256 .bf16) (K : Prog (Eff F) PUnit) : Prog (Eff F) PUnit :=
  .op (.load a (Rect.unit (s := S512x256) ![0, 0] S512x256.size inb_S512x256_S512x256_0_0).toLoadRect
    (View.loadsAt_vmem h_S512x256)) fun (v : Vec F S512x256 .bf16) =>
  .op (.load woM (Rect.unit (s := S512x256) ![0, 0] S512x256.size inb_S512x256_S512x256_0_0).toLoadRect
    (View.loadsAt_vmem h_S512x256)) fun (_ : Vec F S512x256 .bf16) =>
  .op (.store woM (Rect.unit (s := S512x256) ![0, 0] S512x256.size inb_S512x256_S512x256_0_0)
      (shapeCast S512x256 (shapeCast S512x256 v shapeCasts_S512x256_S512x256) shapeCasts_S512x256_S512x256)
      Finset.univ (View.stores_vmem h_S512x256 ((Memref.isWhole_whole cc0_scratch5).storeExact_slice rfl _
        packedbf16_S512x256_S512x256_0_0) (fun _ => rfl)) (.inl rfl)) fun _ => K

/-- A block through both products of a layer. -/
def mlp (x : FVec F S512x256 .bf16) (wi : FVec F S256x512 .bf16) (wo : FVec F S512x256 .bf16) : FVec F S512x256 .bf16 :=
  truncf .bf16 (matmul dot_S512x512_S512x256_S512x256_1_0_0_1_n_n none
    (truncf .bf16 (maximumf (matmul dot_S512x256_S256x512_S512x512_1_0_0_1_n_n none x wi
        (constant S512x512 .f32 0x00000000#32)) (broadcast S512x512 (Scalar.ofBits .f32 0x00000000#32))) bitsLt_bf16_f32)
    wo (constant S512x256 .f32 0x00000000#32)) bitsLt_bf16_f32

/-- One trip of the loop over the blocks. -/
def trip (off : Fin 2 → Nat) (hin : ∀ a, off a + S512x256.size a ≤ S16384x256.size a)
    (hpk : (chR off hin).PackedRows (EltTy.packing .bf16)) : Prog (Eff F) PUnit :=
  .op (.load xg (chR off hin).toLoadRect (View.loadsAt_vmem h_S512x256)) fun (x : Vec F S512x256 .bf16) =>
  .op (.load wiM (Rect.unit (s := S256x512) ![0, 0] S256x512.size inb_S256x512_S256x512_0_0).toLoadRect
    (View.loadsAt_vmem h_S256x512)) fun (wi : Vec F S256x512 .bf16) =>
  .op (.load woM (Rect.unit (s := S512x256) ![0, 0] S512x256.size inb_S512x256_S512x256_0_0).toLoadRect
    (View.loadsAt_vmem h_S512x256)) fun (wo : Vec F S512x256 .bf16) =>
  .op (.load pb (chR off hin).toLoadRect (View.loadsAt_vmem h_S512x256)) fun (_ : Vec F S512x256 .bf16) =>
  .op (.store pb (chR off hin) (shapeCast S512x256 (mlp x wi wo) shapeCasts_S512x256_S512x256)
      Finset.univ (View.stores_vmem h_S512x256 ((Memref.isWhole_whole cc0_scratch1).storeExact_slice rfl _ hpk)
        (fun _ => rfl)) (.inl rfl)) .ret

/-- The loop over the 32 blocks. -/
def blocks (l : Scf.Loop 32) (hl : l.OK) (off : Fin l.trips → Fin 2 → Nat)
    (hin : ∀ k, ∀ a, off k a + S512x256.size a ≤ S16384x256.size a)
    (hpk : ∀ k, (chR (off k) (hin k)).PackedRows (EltTy.packing .bf16)) : Prog (Eff F) PUnit :=
  Scf.Loop.for l hl ⟨⟩ fun k _ => trip (off k) (hin k) (hpk k)

/-- This device's block put into the slot its all-gather starts from. -/
def agInit (d : Dev nD) (K : Prog (Eff F) PUnit) : Prog (Eff F) PUnit :=
  .op (.load xg (chR (k0_off1 d) (k0_off1_inb d)).toLoadRect (View.loadsAt_vmem h_S512x256))
    fun (v : Vec F S512x256 .bf16) =>
  .op (.load cm (slotR 31).toLoadRect (View.loadsAt_vmem h_S1x512x256)) fun (_ : Vec F S1x512x256 .bf16) =>
  .op (.store cm (slotR 31) (shapeCast S1x512x256 v shapeCasts_S512x256_S1x512x256)
      Finset.univ (View.stores_vmem h_S1x512x256 ((Memref.isWhole_whole cc0_scratch3).storeExact_slice rfl _
        (packed_slot 31)) (fun _ => rfl)) (.inl rfl)) fun _ => K

/-- The block its reduce-scatter starts from, widened. -/
def rsInit (d : Dev nD) (K : Prog (Eff F) PUnit) : Prog (Eff F) PUnit :=
  .op (.load pb (chR (k0_off4 d) (k0_off4_inb d)).toLoadRect (View.loadsAt_vmem h_S512x256))
    fun (v : Vec F S512x256 .bf16) =>
  .op (.load stg (slotR 31).toLoadRect (View.loadsAt_vmem h_S1x512x256)) fun (_ : Vec F S1x512x256 .f32) =>
  .op (.store stg (slotR 31) (shapeCast S1x512x256 (extf .f32 v bitsLt_bf16_f32) shapeCasts_S512x256_S1x512x256)
      Finset.univ (View.stores_vmem_bits_univ h_S1x512x256 rfl) (.inl rfl)) fun _ => K

/-- The last sum of the reduce-scatter, given to the continuation. -/
def rsLast (d : Dev nD) (K : FVec F S512x256 .f32 → Prog (Eff F) PUnit) : Prog (Eff F) PUnit :=
  .op (.load stg (slotR (dstI 30)).toLoadRect (View.loadsAt_vmem h_S1x512x256)) fun (v : Vec F S1x512x256 .f32) =>
  .op (.load pb (chR (k0_off1 d) (k0_off1_inb d)).toLoadRect (View.loadsAt_vmem h_S512x256))
    fun (w : Vec F S512x256 .bf16) =>
  K (addf (shapeCast S512x256 v shapeCasts_S1x512x256_S512x256) (extf .f32 w bitsLt_bf16_f32))

/-- A layer's sum rounded back into this device's block of the next layer's input. -/
def next (d : Dev nD) (v : FVec F S512x256 .bf16) (K : Prog (Eff F) PUnit) : Prog (Eff F) PUnit :=
  .op (.load xg (chR (k0_off1 d) (k0_off1_inb d)).toLoadRect (View.loadsAt_vmem h_S512x256))
    fun (_ : Vec F S512x256 .bf16) =>
  .op (.store xg (chR (k0_off1 d) (k0_off1_inb d)) (shapeCast S512x256 v shapeCasts_S512x256_S512x256)
      Finset.univ (View.stores_vmem h_S512x256 ((Memref.isWhole_whole cc0_scratch0).storeExact_slice rfl _
        (k0_off1_packedbf16 d)) (fun _ => rfl)) (.inl rfl)) fun _ => K

/-- A layer: gather the blocks, multiply, scatter the sums; the continuation gets this device's sum. -/
def layer (d : Dev nD) (wi : Memref sig .tc .vmem S256x512 .bf16) (wo : Memref sig .tc .vmem S512x256 .bf16)
    (bl : Prog (Eff F) PUnit) (K : FVec F S512x256 .f32 → Prog (Eff F) PUnit) : Prog (Eff F) PUnit :=
  agInit d <| agLoop d 31 (Nat.le_refl _) <| cpWi wi <| cpWo wo <| bl >>= fun _ =>
  rsInit d <| rsLoop d 30 (Nat.le_refl _) <| rsXfer (rgt d) 30 <| rsLast d K

/-- The kernel's body. -/
def body : Prog (Eff F) PUnit :=
  .op .deviceId fun (d : Dev nD) =>
  .op (.semSignal (⟨k0_dev1 d, k0_dev1_lt d⟩, Proc.tc) barSem (1#32 : BitVec 32).toInt) fun _ =>
  .op (.semSignal (⟨k0_dev2 d, k0_dev2_lt d⟩, Proc.tc) barSem (1#32 : BitVec 32).toInt) fun _ =>
  .op (.semWait barSem (2#32 : BitVec 32).toInt) fun _ =>
  .op (.load (Memref.whole cc0_stg0_0 : Memref sig .tc .vmem S512x256 .bf16)
    (Rect.unit (s := S512x256) ![0, 0] S512x256.size inb_S512x256_S512x256_0_0).toLoadRect
    (View.loadsAt_vmem h_S512x256)) fun (v : Vec F S512x256 .bf16) =>
  next d (shapeCast S512x256 v shapeCasts_S512x256_S512x256) <|
  layer d (Memref.whole cc0_stg1_0) (Memref.whole cc0_stg2_0)
    (blocks k0_t1_loop k0_t1_ok k0_off3 k0_off3_inb k0_off3_packedbf16) fun v =>
  next d (truncf .bf16 v bitsLt_bf16_f32) <|
  layer d (Memref.whole cc0_stg3_0) (Memref.whole cc0_stg4_0)
    (blocks k0_t2_loop k0_t2_ok k0_off5 k0_off5_inb k0_off5_packedbf16) fun v =>
  next d (truncf .bf16 v bitsLt_bf16_f32) <|
  layer d (Memref.whole cc0_stg5_0) (Memref.whole cc0_stg6_0)
    (blocks k0_t3_loop k0_t3_ok k0_off6 k0_off6_inb k0_off6_packedbf16) fun v =>
  .op (.load (Memref.whole cc0_stg7_0 : Memref sig .tc .vmem S512x256 .f32)
    (Rect.unit (s := S512x256) ![0, 0] S512x256.size inb_S512x256_S512x256_0_0).toLoadRect
    (View.loadsAt_vmem h_S512x256)) fun (_ : Vec F S512x256 .f32) =>
  .op (.store (Memref.whole cc0_stg7_0 : Memref sig .tc .vmem S512x256 .f32)
    (Rect.unit (s := S512x256) ![0, 0] S512x256.size inb_S512x256_S512x256_0_0) v Finset.univ
    (View.stores_vmem_bits_univ h_S512x256 rfl) (.inl rfl)) fun _ =>
  .op (.semSignal (⟨k0_dev189 d, k0_dev189_lt d⟩, Proc.tc) bar2Sem (1#32 : BitVec 32).toInt) fun _ =>
  .op (.semSignal (⟨k0_dev190 d, k0_dev190_lt d⟩, Proc.tc) bar2Sem (1#32 : BitVec 32).toInt) fun _ =>
  .op (.semWait bar2Sem (2#32 : BitVec 32).toInt) .ret

/-- The printed body at its buffers. -/
abbrev printed : Prog (Eff F) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scoped0

end Cert.RingMlp

end
-- ==== Proof.Views.lean ====
/-
What a device holds of its buffers: a buffer of blocks by what its blocks read, a buffer of slots slot by slot; and the
loads and stores of the kernel over them.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Rounds

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

/-- The model of the proof: rounds number the tallies. -/
abbrev MM (F : FTy → Type) := MT nD τ sig ℕ (Elt F) ℕ UU ℕ

abbrev EP : Emb (UR sig nD τ) (MM F) := embL
abbrev ER : Emb UB (MM F) := embR

abbrev 𝒱₀ : Variants := Variants.none

/-- The goals of the run: a program on device `c`'s core. -/
abbrev WP (c : Dev nD) {α : Type} (p : Prog (Eff F) α) (Q : α → sProp (MM F)) : sProp (MM F) :=
  wp frame (wpE (defs₀ (F := F)) 𝒱₀ (c : Thread nD τ) none) Set.univ p Q

/-! ## Buffers of blocks -/

/-- Block `j` of a buffer of blocks. -/
def rd (M : Memref sig .tc .vmem S16384x256 .bf16) (j : Fin 32) (f : M.view.ty.Contents (Elt F)) : FVec F S512x256 .bf16 :=
  M.view.readAt (Elt F) (chR ![512 * j.val, 0] (inb_chunk j)).toLoadRect f

/-- The buffer held, its blocks at which `S` reading `V`. -/
def chP (c : Dev nD) (M : Memref sig .tc .vmem S16384x256 .bf16) (S : Fin 32 → Prop) (V : Fin 32 → FVec F S512x256 .bf16) :
    sProp (MM F) :=
  iprop(∃ f, ⌜∀ j, S j → rd M j f = V j⌝ ∗ (M.view.loc (c : Thread nD τ) ↦[M.view.set]{fullShare} f))

theorem chR_disjoint {j j' : Fin 32} (h : j ≠ j') :
    Disjoint (chR ![512 * j.val, 0] (inb_chunk j)).set (chR ![512 * j'.val, 0] (inb_chunk j')).set := by
  rw [Finset.disjoint_left]
  intro x hx hx'
  have h1 := Rect.mem_set_unit.mp hx 0
  have h2 := Rect.mem_set_unit.mp hx' 0
  simp at h1 h2
  exact h (Fin.ext (by omega))

theorem rd_write_same (M : Memref sig .tc .vmem S16384x256 .bf16) (j : Fin 32) (f : M.view.ty.Contents (Elt F))
    (w : FVec F S512x256 .bf16) :
    rd M j ((M.access (chR ![512 * j.val, 0] (inb_chunk j))).write (Elt F) f w Finset.univ) = w :=
  View.read_write_univ (v := M.access (chR ![512 * j.val, 0] (inb_chunk j))) f w

theorem rd_write_other (M : Memref sig .tc .vmem S16384x256 .bf16) {j j' : Fin 32} (h : j ≠ j') (f : M.view.ty.Contents (Elt F))
    (w : FVec F S512x256 .bf16) :
    rd M j ((M.access (chR ![512 * j'.val, 0] (inb_chunk j'))).write (Elt F) f w Finset.univ) = rd M j f := by
  unfold rd
  refine View.readAt_congr fun i hi => ?_
  refine View.write_of_not_mem _ _ _ fun hm => ?_
  rw [View.setOn_univ] at hm
  have hd := View.disjoint_slice (v := M.view) (chR_disjoint h)
  refine Finset.disjoint_left.mp hd ?_ hm
  rw [View.set_slice]; exact hi

theorem wp_ld (c : Dev nD) {M : Memref sig .tc .vmem S16384x256 .bf16} {S : Fin 32 → Prop} {V : Fin 32 → FVec F S512x256 .bf16}
    {off : Fin 2 → Nat} {hin} {hl} (j : Fin 32) (hoff : off = ![512 * j.val, 0]) (hS : S j) {α : Type}
    {k : Vec F S512x256 .bf16 → Prog (Eff F) α} {Q : α → sProp (MM F)} :
    chP c M S V ⊢ iprop((chP c M S V -∗ WP c (k (V j)) Q) -∗ WP c (.op (.load (e := .bf16) M (chR off hin).toLoadRect hl) k) Q) := by
  subst hoff
  unfold chP
  iintro ⟨%f, %hf, Hf⟩ Hk
  iapply (wp_load 𝒱₀ (c : Thread nD τ) none Set.univ (m := M) (S := M.view.set)
    (Finset.map_subset_map.mpr (Finset.subset_univ _))) $$ Hf
  iintro Hf
  rw [show M.view.readAt (Elt F) (chR ![512 * j.val, 0] hin).toLoadRect f = V j from hf j hS]
  iapply Hk
  iexists f
  isplitr; · (ipureintro; exact hf)
  iexact Hf

theorem wp_ld_any (c : Dev nD) {M : Memref sig .tc .vmem S16384x256 .bf16} {S : Fin 32 → Prop} {V : Fin 32 → FVec F S512x256 .bf16}
    {off : Fin 2 → Nat} {hin} {hl} {α : Type}
    {k : Vec F S512x256 .bf16 → Prog (Eff F) α} {Q : α → sProp (MM F)} :
    chP c M S V ⊢ iprop((∀ v, chP c M S V -∗ WP c (k v) Q) -∗ WP c (.op (.load (e := .bf16) M (chR off hin).toLoadRect hl) k) Q) := by
  unfold chP
  iintro ⟨%f, %hf, Hf⟩ Hk
  iapply (wp_load 𝒱₀ (c : Thread nD τ) none Set.univ (m := M) (S := M.view.set)
    (Finset.map_subset_map.mpr (Finset.subset_univ _))) $$ Hf
  iintro Hf
  iapply Hk
  iexists f
  isplitr; · (ipureintro; exact hf)
  iexact Hf

theorem wp_st (c : Dev nD) {M : Memref sig .tc .vmem S16384x256 .bf16} {S S' : Fin 32 → Prop} {V V' : Fin 32 → FVec F S512x256 .bf16}
    {off : Fin 2 → Nat} {hin} {w : FVec F S512x256 .bf16} {hx} {hm} (j : Fin 32) (hoff : off = ![512 * j.val, 0])
    (hj : S' j → V' j = w) (hS : ∀ i, i ≠ j → S' i → S i ∧ V' i = V i) {α : Type}
    {k : PUnit → Prog (Eff F) α} {Q : α → sProp (MM F)} :
    chP c M S V ⊢ iprop((chP c M S' V' -∗ WP c (k ⟨⟩) Q) -∗ WP c (.op (.store M (chR off hin) w Finset.univ hx hm) k) Q) := by
  subst hoff
  unfold chP
  iintro ⟨%f, %hf, Hf⟩ Hk
  iapply (wp_store 𝒱₀ (c : Thread nD τ) none Set.univ (m := M) (r := chR ![512 * j.val, 0] hin) (Mk := Finset.univ)
    (by rw [View.setOn_univ]; exact View.set_slice_subset _ _)) $$ Hf
  iintro Hf
  iapply Hk
  iexists _
  isplitr
  · ipureintro
    intro i hi
    by_cases h : i = j
    · subst h; rw [hj hi]; exact rd_write_same M i f w
    · rw [(hS i h hi).2, ← hf i (hS i h hi).1]; exact rd_write_other M h f w
  iexact Hf

/-! ## Buffers of slots -/

/-- Slot `s` as the transfers address it. -/
abbrev sl {e : EltTy} (M : Memref sig .tc .vmem S32x512x256 e) (s : Fin 32) : Memref sig .tc .vmem S512x256 e :=
  (M.slice (slotR s) (fun _ => rfl)).squeeze S512x256 squeezes_S1x512x256_S512x256

def slAny (c : Dev nD) {e : EltTy} (M : Memref sig .tc .vmem S32x512x256 e) (s : Fin 32) : sProp (MM F) :=
  iprop(∃ f, ((sl M s).view.loc (c : Thread nD τ) ↦[(sl M s).view.set]{fullShare} f))
def slP (c : Dev nD) {e : EltTy} (M : Memref sig .tc .vmem S32x512x256 e) (s : Fin 32) (v : Vec F S512x256 e) : sProp (MM F) :=
  iprop(∃ f, ⌜(sl M s).view.read (Elt F) f = v⌝ ∗ ((sl M s).view.loc (c : Thread nD τ) ↦[(sl M s).view.set]{fullShare} f))

theorem slP_any (c : Dev nD) {e : EltTy} (M : Memref sig .tc .vmem S32x512x256 e) (s : Fin 32) (v : Vec F S512x256 e) :
    slP c M s v ⊢ slAny (F := F) c M s := by
  unfold slP slAny
  iintro ⟨%f, -, H⟩
  iexists f; iexact H

instance slAny_storable (c : Dev nD) {e : EltTy} (M : Memref sig .tc .vmem S32x512x256 e) (s : Fin 32) :
    BI.Storable (upEmb : UEmb _ (MM F)) (slAny (F := F) c M s) := by unfold slAny; infer_instance
instance slP_storable (c : Dev nD) {e : EltTy} (M : Memref sig .tc .vmem S32x512x256 e) (s : Fin 32) (v : Vec F S512x256 e) :
    BI.Storable (upEmb : UEmb _ (MM F)) (slP c M s v) := by unfold slP; infer_instance

theorem sl_set {e : EltTy} (M : Memref sig .tc .vmem S32x512x256 e) (s : Fin 32) : (sl M s).view.set = (M.access (slotR s)).set :=
  View.set_reshape _ _

theorem wp_ldS (c : Dev nD) {e : EltTy} {M : Memref sig .tc .vmem S32x512x256 e} {s : Fin 32} {v : Vec F S512x256 e} {hl} {α : Type}
    {k : Vec F S1x512x256 e → Prog (Eff F) α} {Q : α → sProp (MM F)} :
    slP c M s v ⊢ iprop((∀ x, ⌜shapeCast S512x256 x shapeCasts_S1x512x256_S512x256 = v⌝ -∗ slP c M s v -∗ WP c (k x) Q)
      -∗ WP c (.op (.load M (slotR s).toLoadRect hl) k) Q) := by
  unfold slP
  iintro ⟨%f, %hf, Hf⟩ Hk
  iapply (wp_load_rect 𝒱₀ (c : Thread nD τ) none Set.univ (m := M) (r := slotR s) (S := (sl M s).view.set)
    (by rw [sl_set])) $$ Hf
  iintro Hf
  ispecialize Hk $$ %((M.access (slotR s)).read (Elt F) f)
  iapply Hk
  · ipureintro; exact hf
  iexists f
  isplitr; · (ipureintro; exact hf)
  iexact Hf

theorem wp_ldS_any (c : Dev nD) {e : EltTy} {M : Memref sig .tc .vmem S32x512x256 e} {s : Fin 32} {hl} {α : Type}
    {k : Vec F S1x512x256 e → Prog (Eff F) α} {Q : α → sProp (MM F)} :
    slAny c M s ⊢ iprop((∀ x, slAny c M s -∗ WP c (k x) Q)
      -∗ WP c (.op (.load M (slotR s).toLoadRect hl) k) Q) := by
  unfold slAny
  iintro ⟨%f, Hf⟩ Hk
  iapply (wp_load_rect 𝒱₀ (c : Thread nD τ) none Set.univ (m := M) (r := slotR s) (S := (sl M s).view.set)
    (by rw [sl_set])) $$ Hf
  iintro Hf
  ispecialize Hk $$ %((M.access (slotR s)).read (Elt F) f)
  iapply Hk
  iexists f
  iexact Hf

theorem wp_stS (c : Dev nD) {e : EltTy} {M : Memref sig .tc .vmem S32x512x256 e} {s : Fin 32} {w : Vec F S512x256 e} {hx} {hm} {α : Type}
    {k : PUnit → Prog (Eff F) α} {Q : α → sProp (MM F)} :
    slAny c M s ⊢ iprop((slP c M s w -∗ WP c (k ⟨⟩) Q)
      -∗ WP c (.op (.store M (slotR s) (shapeCast S1x512x256 w shapeCasts_S512x256_S1x512x256) Finset.univ hx hm) k) Q) := by
  unfold slAny slP
  iintro ⟨%f, Hf⟩ Hk
  iapply (wp_store 𝒱₀ (c : Thread nD τ) none Set.univ (m := M) (r := slotR s) (Mk := Finset.univ)
    (by rw [View.setOn_univ, sl_set])) $$ Hf
  iintro Hf
  iapply Hk
  iexists _
  isplitr
  · ipureintro
    exact (congrArg (fun x => shapeCast S512x256 x shapeCasts_S1x512x256_S512x256)
      (View.read_write_univ (v := M.access (slotR s)) f (shapeCast S1x512x256 w shapeCasts_S512x256_S1x512x256))).trans
      (shapeCast_shapeCast w shapeCasts_S512x256_S1x512x256 shapeCasts_S1x512x256_S512x256)
  iexact Hf

end Cert.RingMlp

end
-- ==== Proof.Protocol.lean ====
/-
The protocol of the ring. Every device sends 186 messages to the device on its right: in layer r, messages 62 r … 62 r + 30
are the all-gather's and 62 r + 31 … 62 r + 61 the reduce-scatter's. Message n fills slot n mod 62 of the receiver, so
slot n mod 62 must be free again before: the permission to fill it travels round the ring with the messages themselves
(`Tr`), the first 62 permissions being handed over at the first handshake.
-/
module

public import proofs.«01_k».proof.Proof.Views

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device `k` places to the right. -/
def sh (d : Dev nD) (k : ℕ) : Dev nD := ⟨(d.val + k) % 32, Nat.mod_lt _ (by decide)⟩

theorem sh_val (d : Dev nD) (k : ℕ) : (sh d k).val = (d.val + k) % 32 := rfl
theorem sh_sh (d : Dev nD) (j k : ℕ) : sh (sh d j) k = sh d (j + k) := Fin.ext (by rw [sh_val, sh_val, sh_val]; omega)
theorem sh_congr (d : Dev nD) {j k : ℕ} (h : j % 32 = k % 32) : sh d j = sh d k := Fin.ext (by rw [sh_val, sh_val]; omega)
theorem sh_self (d : Dev nD) {k : ℕ} (h : k % 32 = 0) : sh d k = d := Fin.ext (by rw [sh_val]; have : d.val < 32 := d.isLt; omega)

theorem rgt_eq (d : Dev nD) : rgt d = sh d 1 := by revert d; decide +kernel
theorem dev1_eq (d : Dev nD) : (⟨k0_dev1 d, k0_dev1_lt d⟩ : Dev nD) = sh d 31 := by revert d; decide +kernel
theorem dev2_eq (d : Dev nD) : (⟨k0_dev2 d, k0_dev2_lt d⟩ : Dev nD) = sh d 1 := by revert d; decide +kernel
theorem dev189_eq (d : Dev nD) : (⟨k0_dev189 d, k0_dev189_lt d⟩ : Dev nD) = sh d 31 := by revert d; decide +kernel
theorem dev190_eq (d : Dev nD) : (⟨k0_dev190 d, k0_dev190_lt d⟩ : Dev nD) = sh d 1 := by revert d; decide +kernel

/-! ## The values -/

/-- What the devices start from: their blocks of the input and of the three layers' weights. -/
structure Inp (F : FTy → Type) where
  x : Dev nD → FVec F S512x256 .bf16
  wi : ℕ → Dev nD → FVec F S256x512 .bf16
  wo : ℕ → Dev nD → FVec F S512x256 .bf16

/-- The running sum of partial products that device `d` sends at step `s`, from the products `P`. -/
def Av (P : Dev nD → Dev nD → FVec F S512x256 .bf16) : ℕ → Dev nD → FVec F S512x256 .f32
  | 0, d => extf .f32 (P d (sh d 31)) bitsLt_bf16_f32
  | s + 1, d => addf (Av P s (sh d 31)) (extf .f32 (P d (sh d (30 - s))) bitsLt_bf16_f32)

/-- The whole sum of its block, as device `d` ends up with it. -/
def Tot (P : Dev nD → Dev nD → FVec F S512x256 .bf16) (d : Dev nD) : FVec F S512x256 .f32 :=
  addf (Av P 30 (sh d 31)) (extf .f32 (P d d) bitsLt_bf16_f32)

/-- Device `d`'s product of block `j` in layer `l`, from the layer's blocks. -/
def Pv (I : Inp F) (X : Dev nD → FVec F S512x256 .bf16) (l : ℕ) (d j : Dev nD) : FVec F S512x256 .bf16 :=
  mlp (X j) (I.wi l d) (I.wo l d)

/-- The blocks layer `l` starts from. -/
def Xv (I : Inp F) : ℕ → Dev nD → FVec F S512x256 .bf16
  | 0 => I.x
  | l + 1 => fun d => truncf .bf16 (Tot (Pv I (Xv I l) l) d) bitsLt_bf16_f32

abbrev PP (I : Inp F) (l : ℕ) := Pv I (Xv I l) l

/-! ## The cells -/

abbrev bcell (d : Dev nD) : GSem nD τ sig := ((d : Thread nD τ), .reg barSem)
abbrev b2cell (d : Dev nD) : GSem nD τ sig := ((d : Thread nD τ), .reg bar2Sem)
abbrev scell (d : Dev nD) : GSem nD τ sig := ((d : Thread nD τ), .dma sendSem)

set_option backward.proofsInPublic true in
/-- The receive semaphore of message `n`. -/
def rsem (n : ℕ) : DmaSem sig := ⟨8 + n % 62, show 8 + n % 62 < 71 by omega⟩
abbrev rcell (d : Dev nD) (n : ℕ) : GSem nD τ sig := ((d : Thread nD τ), .dma (rsem n))

theorem agSem_eq (s : Fin 31) : agSem s = rsem s.val := by revert s; decide
theorem rsSem_eq (s : Fin 31) : rsSem s = rsem (s.val + 31) := by revert s; decide
theorem rsem_congr {m n : ℕ} (h : m % 62 = n % 62) : rsem m = rsem n := by unfold rsem; simp [h]

/-- A semaphore's kind, as a number. -/
def key : SemLoc sig → ℕ
  | .reg s => s.val
  | .dma s => 10 + s.val

theorem key_bar : key (.reg barSem) = 0 := rfl
theorem key_bar2 : key (.reg bar2Sem) = 1 := by decide
theorem key_recv (n : ℕ) : key (.dma (rsem n)) = 18 + n % 62 := by show 10 + (8 + n % 62) = _; omega
theorem key_send : key (.dma sendSem) = 80 := by decide
theorem key_inj {a b : SemLoc sig} (h : key a = key b) (ha : key a < 80 + 1) : a = b := by
  rcases a with s | s <;> rcases b with t | t
  · exact congrArg _ (Fin.ext h)
  · have : s.val < 2 := s.isLt
    have h' : s.val = 10 + t.val := h
    omega
  · have : t.val < 2 := t.isLt
    have h' : 10 + s.val = t.val := h
    omega
  · have h' : 10 + s.val = 10 + t.val := h
    exact congrArg _ (Fin.ext (by omega))

/-! ## The messages -/

abbrev NA : ℕ := (cmS 0).view.dmaCredit
abbrev NR : ℕ := (stgS 0).view.dmaCredit
theorem NA_pos : 0 < NA := View.dmaCredit_pos _ (by decide)
theorem NR_pos : 0 < NR := View.dmaCredit_pos _ (by decide)

/-- The credit of message `n`. -/
def amt (n : ℕ) : ℕ := if n % 62 < 31 then NA else NR
theorem amt_pos (n : ℕ) : 0 < amt n := by unfold amt; split; exacts [NA_pos, NR_pos]

/-- The slot message `n` fills, and the one it is sent from, at any contents. -/
def dstAny (d : Dev nD) (n : ℕ) : sProp (MM F) :=
  if h : n % 62 < 31 then slAny d cm (dstI ⟨n % 62, h⟩) else slAny d stg (dstI ⟨n % 62 - 31, by omega⟩)
def srcAny (d : Dev nD) (n : ℕ) : sProp (MM F) :=
  if h : n % 62 < 31 then slAny d cm (srcI ⟨n % 62, h⟩) else slAny d stg (srcI ⟨n % 62 - 31, by omega⟩)

/-- Device `d`'s slot for message `m`, free: the permission to send message `m` to `d`. -/
def Free (d : Dev nD) (m : ℕ) : sProp (MM F) := iprop(dstAny d m ∗ reached ER (rcell d m) (m / 62))

/-- The permissions device `c` holds when it is to send message `n`, from the first handshake … -/
def Fr (c : Dev nD) (n : ℕ) : sProp (MM F) := bigSep (Finset.Ico n 62) fun m => Free (sh c 1) m
/-- … and from the messages received: one for each of the next 31 messages along the way, at the device it is for. -/
def Tr (c : Dev nD) (n : ℕ) : sProp (MM F) :=
  bigSep (Finset.Ico (max n 62) (min (n + 31) 186)) fun m => Free (sh c (m + 1 + 31 * n)) m

/-- What message `n` holds when it has reached device `d`. -/
def landed (I : Inp F) (d : Dev nD) (n : ℕ) : sProp (MM F) :=
  if h : n % 62 < 31 then slP d cm (dstI ⟨n % 62, h⟩) (Xv I (n / 62) (sh d (31 - n % 62)))
  else slP d stg (dstI ⟨n % 62 - 31, by omega⟩) (Av (PP I (n / 62)) (n % 62 - 31) (sh d 31))

def recvPay (I : Inp F) (d : Dev nD) (n : ℕ) : sProp (MM F) := iprop(landed I d n ∗ Tr d (n + 1))

instance dstAny_storable (d : Dev nD) (n : ℕ) : BI.Storable (upEmb : UEmb _ (MM F)) (dstAny (F := F) d n) := by
  unfold dstAny; split <;> infer_instance
instance srcAny_storable (d : Dev nD) (n : ℕ) : BI.Storable (upEmb : UEmb _ (MM F)) (srcAny (F := F) d n) := by
  unfold srcAny; split <;> infer_instance
instance Free_storable (d : Dev nD) (n : ℕ) : BI.Storable (upEmb : UEmb _ (MM F)) (Free (F := F) d n) := by
  unfold Free; infer_instance
instance Fr_storable (d : Dev nD) (n : ℕ) : BI.Storable (upEmb : UEmb _ (MM F)) (Fr (F := F) d n) := by
  unfold Fr; infer_instance
instance Tr_storable (d : Dev nD) (n : ℕ) : BI.Storable (upEmb : UEmb _ (MM F)) (Tr (F := F) d n) := by
  unfold Tr; infer_instance
instance landed_storable (I : Inp F) (d : Dev nD) (n : ℕ) : BI.Storable (upEmb : UEmb _ (MM F)) (landed I d n) := by
  unfold landed; split <;> infer_instance
instance recvPay_storable (I : Inp F) (d : Dev nD) (n : ℕ) : BI.Storable (upEmb : UEmb _ (MM F)) (recvPay I d n) := by
  unfold recvPay; infer_instance

/-! ## The schedule -/

/-- A barrier cell's round has the duty `false` of the left neighbour and `true` of the right one; a receive cell has three
    rounds, one per layer; the send cell one per message. -/
def Rd (I : Inp F) : Rounds.Schedule (GSem nD τ sig) Bool (MM F) where
  duties g r :=
    if g.1.2 = .tc then
      if key g.2 ≤ 1 then (if r = 0 then Finset.univ else ∅)
      else if 18 ≤ key g.2 ∧ key g.2 < 80 then (if r < 3 then {false} else ∅)
      else if key g.2 = 80 then (if r < 186 then {false} else ∅) else ∅
    else ∅
  unitless _ := False
  amount g r _ := if key g.2 ≤ 1 then 1 else if key g.2 < 80 then amt (key g.2 - 18) else amt r
  payload g r d :=
    if key g.2 = 0 then (if d then Fr g.1.1 0 else iprop(emp))
    else if key g.2 = 1 then iprop(emp)
    else if key g.2 < 80 then recvPay I g.1.1 (62 * r + (key g.2 - 18))
    else srcAny g.1.1 r
  amount_pos g r d _ := by
    split; · exact Nat.one_pos
    split <;> exact amt_pos _

instance Rd_payload_storable (I : Inp F) (g : GSem nD τ sig) (r : ℕ) (d : Bool) :
    BI.Storable (upEmb : UEmb _ (MM F)) ((Rd I).payload g r d) := by
  show BI.Storable upEmb (if key g.2 = 0 then (if d then Fr g.1.1 0 else iprop(emp)) else if key g.2 = 1 then iprop(emp)
    else if key g.2 < 80 then recvPay I g.1.1 (62 * r + (key g.2 - 18)) else srcAny g.1.1 r)
  (repeat' split) <;> infer_instance

section Sched
variable (I : Inp F) (d : Dev nD)

theorem duties_bar : (Rd I).duties (bcell d) 0 = Finset.univ := by dsimp only [Rd]; rw [key_bar]; rfl
theorem duties_bar2 : (Rd I).duties (b2cell d) 0 = Finset.univ := by dsimp only [Rd]; rw [key_bar2]; rfl
theorem duties_recv {n : ℕ} (h : n < 186) : (Rd I).duties (rcell d n) (n / 62) = {false} := by
  dsimp only [Rd]; rw [key_recv, if_pos rfl, if_neg (by omega), if_pos (by omega), if_pos (by omega)]
theorem duties_send {n : ℕ} (h : n < 186) : (Rd I).duties (scell d) n = {false} := by
  dsimp only [Rd]; rw [key_send, if_pos rfl, if_neg (by omega), if_neg (by omega), if_pos rfl, if_pos h]

theorem later_bar : ∀ r, 1 ≤ r → (Rd I).duties (bcell d) r = ∅ := fun r hr => by
  dsimp only [Rd]; rw [key_bar, if_pos rfl, if_pos (by omega), if_neg (by omega)]
theorem later_bar2 : ∀ r, 1 ≤ r → (Rd I).duties (b2cell d) r = ∅ := fun r hr => by
  dsimp only [Rd]; rw [key_bar2, if_pos rfl, if_pos (by omega), if_neg (by omega)]
theorem later_recv (n : ℕ) : ∀ r, 3 ≤ r → (Rd I).duties (rcell d n) r = ∅ := fun r hr => by
  dsimp only [Rd]; rw [key_recv, if_pos rfl, if_neg (by omega), if_pos (by omega), if_neg (by omega)]
theorem later_send : ∀ r, 186 ≤ r → (Rd I).duties (scell d) r = ∅ := fun r hr => by
  dsimp only [Rd]; rw [key_send, if_pos rfl, if_neg (by omega), if_neg (by omega), if_pos rfl, if_neg (by omega)]

theorem amount_bar (b : Bool) : (Rd I).amount (bcell d) 0 b = 1 := by dsimp only [Rd]; rw [key_bar]; rfl
theorem amount_bar2 (b : Bool) : (Rd I).amount (b2cell d) 0 b = 1 := by dsimp only [Rd]; rw [key_bar2]; rfl
theorem amount_recv (n r : ℕ) (b : Bool) : (Rd I).amount (rcell d n) r b = amt n := by
  dsimp only [Rd]; rw [key_recv, if_neg (by omega), if_pos (by omega)]; unfold amt
  rw [show (18 + n % 62 - 18) % 62 = n % 62 by omega]
theorem amount_send (n : ℕ) (b : Bool) : (Rd I).amount (scell d) n b = amt n := by
  dsimp only [Rd]; rw [key_send, if_neg (by omega), if_neg (by omega)]

theorem expect_bar : (Rd I).expect (bcell d) 0 = 2 := by
  unfold Schedule.expect Schedule.amountOf
  rw [duties_bar, Finset.sum_congr rfl fun b _ => amount_bar I d b, Finset.sum_const, Finset.card_univ, Fintype.card_bool, smul_eq_mul]
theorem expect_bar2 : (Rd I).expect (b2cell d) 0 = 2 := by
  unfold Schedule.expect Schedule.amountOf
  rw [duties_bar2, Finset.sum_congr rfl fun b _ => amount_bar2 I d b, Finset.sum_const, Finset.card_univ, Fintype.card_bool, smul_eq_mul]
theorem expect_recv {n : ℕ} (h : n < 186) : (Rd I).expect (rcell d n) (n / 62) = amt n := by
  unfold Schedule.expect Schedule.amountOf; rw [duties_recv I d h, Finset.sum_singleton, amount_recv]
theorem expect_send {n : ℕ} (h : n < 186) : (Rd I).expect (scell d) n = amt n := by
  unfold Schedule.expect Schedule.amountOf; rw [duties_send I d h, Finset.sum_singleton, amount_send]

theorem payload_bar_true : (Rd I).payload (bcell d) 0 true = Fr d 0 := by dsimp only [Rd]; rw [key_bar, if_pos rfl, if_pos rfl]
theorem payload_bar_false : (Rd I).payload (bcell d) 0 false = iprop(emp) := by
  dsimp only [Rd]; rw [key_bar, if_pos rfl]; exact if_neg Bool.false_ne_true
theorem payload_bar2 (b : Bool) : (Rd I).payload (b2cell d) 0 b = iprop(emp) := by
  dsimp only [Rd]; rw [key_bar2, if_neg (by omega), if_pos rfl]
theorem payload_recv (n : ℕ) (b : Bool) : (Rd I).payload (rcell d n) (n / 62) b = recvPay I d n := by
  dsimp only [Rd]; rw [key_recv, if_neg (by omega), if_neg (by omega), if_pos (by omega)]
  rw [show 62 * (n / 62) + (18 + n % 62 - 18) = n by omega]
theorem payload_send (n : ℕ) (b : Bool) : (Rd I).payload (scell d) n b = srcAny d n := by
  dsimp only [Rd]; rw [key_send, if_neg (by omega), if_neg (by omega), if_neg (by omega)]

theorem rest_bar : bigSep ((Rd I).duties (bcell d) 0 \ ∅) (fun b => (Rd I).payload (bcell d) 0 b) = iprop(emp ∗ Fr d 0) := by
  rw [Finset.sdiff_empty, duties_bar, bigSep_univ_eq_bigSepL [false, true] (by decide) (by decide), bigSepL_cons_cons, bigSepL_singleton,
    payload_bar_false, payload_bar_true]
  rfl
theorem rest_recv {n : ℕ} (h : n < 186) :
    bigSep ((Rd I).duties (rcell d n) (n / 62) \ ∅) (fun b => (Rd I).payload (rcell d n) (n / 62) b) = recvPay I d n := by
  rw [Finset.sdiff_empty, duties_recv I d h, bigSep_singleton, payload_recv]
theorem rest_send {n : ℕ} (h : n < 186) :
    bigSep ((Rd I).duties (scell d) n \ ∅) (fun b => (Rd I).payload (scell d) n b) = srcAny d n := by
  rw [Finset.sdiff_empty, duties_send I d h, bigSep_singleton, payload_send]

end Sched

/-! ## What each device owes; the levels -/

theorem Ico_pop {n m : ℕ} (h : n < m) : Finset.Ico n m = insert n (Finset.Ico (n + 1) m) := by
  ext i; rw [Finset.mem_insert, Finset.mem_Ico, Finset.mem_Ico]; omega
theorem Ico_push {n m : ℕ} (h : n ≤ m) : Finset.Ico n (m + 1) = insert m (Finset.Ico n m) := by
  ext i; rw [Finset.mem_insert, Finset.mem_Ico, Finset.mem_Ico]; omega
theorem Ico_not_mem {n m : ℕ} : n ∉ Finset.Ico (n + 1) m := by rw [Finset.mem_Ico]; omega
theorem Ico_not_mem' {n m : ℕ} : m ∉ Finset.Ico n m := by rw [Finset.mem_Ico]; omega

/-- What device `c` still owes before it sends message `n`: the messages from `n` on to its right neighbour, and a unit to
    each neighbour's last handshake. -/
def debt (c : Dev nD) (n : ℕ) : CellTallies nD τ sig ℕ :=
  (∑ j ∈ Finset.Ico n 186, tallyAt (rcell (sh c 1) j) (j / 62) (amt j))
    + (tallyAt (b2cell (sh c 1)) 0 1 + tallyAt (b2cell (sh c 31)) 0 1)

theorem debt_succ (c : Dev nD) {n : ℕ} (h : n < 186) :
    debt c n = debt c (n + 1) + tallyAt (rcell (sh c 1) n) (n / 62) (amt n) := by
  unfold debt
  rw [Ico_pop h, Finset.sum_insert Ico_not_mem, add_assoc, add_comm]

theorem debt_end (c : Dev nD) : debt c 186 = tallyAt (b2cell (sh c 1)) 0 1 + tallyAt (b2cell (sh c 31)) 0 1 := by
  unfold debt; rw [Finset.Ico_self, Finset.sum_empty, zero_add]

/-- At launch it owes the first handshake too. -/
def O₁ (c : Dev nD) : CellTallies nD τ sig ℕ := debt c 0 + tallyAt (bcell (sh c 1)) 0 1
def O₀ (c : Dev nD) : CellTallies nD τ sig ℕ := O₁ c + tallyAt (bcell (sh c 31)) 0 1

def L (g : GSem nD τ sig) : Finset ℕ := if g.1.2 = .tc then Finset.range 3 else ∅
/-- The first handshake at 1, message `n` at `n + 2`, the last handshake above them all, everything else at 0. -/
def lv (g : GSem nD τ sig) (i : ℕ) : ℕ :=
  if key g.2 = 0 then 1 else if key g.2 = 1 then 1000 else if 18 ≤ key g.2 ∧ key g.2 < 80 then 62 * i + (key g.2 - 18) + 2 else 0

theorem L_of_ne (g : GSem nD τ sig) (h : g.1.2 ≠ .tc) : L g = ∅ := if_neg h
theorem L_tc (c : Dev nD) (sm : SemLoc sig) : L ((c : Thread nD τ), sm) = Finset.range 3 := if_pos rfl
theorem lv_bar (d : Dev nD) (i : ℕ) : lv (bcell d) i = 1 := by unfold lv; rw [key_bar]; rfl
theorem lv_bar2 (d : Dev nD) (i : ℕ) : lv (b2cell d) i = 1000 := by unfold lv; rw [key_bar2]; rfl
theorem lv_recv (d : Dev nD) (n : ℕ) : lv (rcell d n) (n / 62) = n + 2 := by
  unfold lv; rw [key_recv, if_neg (by omega), if_neg (by omega), if_pos (by omega)]; omega
theorem lv_send (d : Dev nD) (i : ℕ) : lv (scell d) i = 0 := by
  unfold lv; rw [key_send]; rfl

theorem tally_pos {g g' : GSem nD τ sig} {i i' k : ℕ} (h : 0 < (tallyAt g i k : CellTallies nD τ sig ℕ) g' i') : g' = g ∧ i' = i := by
  rw [tallyAt_apply] at h
  by_contra hn
  rw [if_neg hn] at h
  exact Nat.lt_irrefl 0 h

/-- What is owed before message `n` is a later message's credit or a unit of the last handshake. -/
theorem debt_pos {c : Dev nD} {n : ℕ} {g : GSem nD τ sig} {i : ℕ} (h : 0 < debt c n g i) :
    (∃ j, n ≤ j ∧ j < 186 ∧ g = rcell (sh c 1) j ∧ i = j / 62) ∨ (∃ d, g = b2cell d ∧ i = 0) := by
  unfold debt at h
  rw [Pi.add_apply, Finsupp.add_apply, Pi.add_apply, Finsupp.add_apply, Finset.sum_apply, Finsupp.finset_sum_apply] at h
  by_cases h1 : 0 < ∑ j ∈ Finset.Ico n 186, (tallyAt (rcell (sh c 1) j) (j / 62) (amt j) : CellTallies nD τ sig ℕ) g i
  · obtain ⟨j, hj, hp⟩ := Finset.exists_ne_zero_of_sum_ne_zero (Nat.pos_iff_ne_zero.mp h1)
    obtain ⟨e1, e2⟩ := tally_pos (Nat.pos_of_ne_zero hp)
    exact .inl ⟨j, (Finset.mem_Ico.mp hj).1, (Finset.mem_Ico.mp hj).2, e1, e2⟩
  · by_cases h2 : 0 < (tallyAt (b2cell (sh c 1)) 0 1 : CellTallies nD τ sig ℕ) g i
    · obtain ⟨e1, e2⟩ := tally_pos h2
      exact .inr ⟨_, e1, e2⟩
    · obtain ⟨e1, e2⟩ := tally_pos (show 0 < (tallyAt (b2cell (sh c 31)) 0 1 : CellTallies nD τ sig ℕ) g i by omega)
      exact .inr ⟨_, e1, e2⟩

theorem debt_lv {c : Dev nD} {n : ℕ} (hn : n ≤ 186) {g : GSem nD τ sig} {i : ℕ} (h : 0 < debt c n g i) : i ∈ L g ∧ n + 2 ≤ lv g i := by
  rcases debt_pos h with ⟨j, h1, h2, rfl, rfl⟩ | ⟨d, rfl, rfl⟩
  · rw [L_tc, lv_recv, Finset.mem_range]; omega
  · rw [L_tc, lv_bar2, Finset.mem_range]; omega

theorem O₀_lv {c : Dev nD} {g : GSem nD τ sig} {i : ℕ} (h : 0 < O₀ c g i) : i ∈ L g ∧ 1 ≤ lv g i := by
  unfold O₀ O₁ at h
  rw [Pi.add_apply, Finsupp.add_apply, Pi.add_apply, Finsupp.add_apply] at h
  by_cases h1 : 0 < debt c 0 g i
  · have := debt_lv (by omega) h1
    exact ⟨this.1, by omega⟩
  · by_cases h2 : 0 < (tallyAt (bcell (sh c 1)) 0 1 : CellTallies nD τ sig ℕ) g i
    · obtain ⟨rfl, rfl⟩ := tally_pos h2
      rw [L_tc, lv_bar, Finset.mem_range]; omega
    · obtain ⟨rfl, rfl⟩ := tally_pos (show 0 < (tallyAt (bcell (sh c 31)) 0 1 : CellTallies nD τ sig ℕ) g i by omega)
      rw [L_tc, lv_bar, Finset.mem_range]; omega

/-- Waiting at a level below everything owed is allowed. -/
theorem mayWait_of_lv (c : Dev nD) (sm : SemLoc sig) (i : ℕ) (hi : i < 3) (O : CellTallies nD τ sig ℕ)
    (hO : ∀ g j, 0 < O g j → j ∈ L g ∧ lv ((c : Thread nD τ), sm) i < lv g j) :
    (levAts L lv : sProp (MM F)) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (hO g u hg).1)
    (fun p hp => by rw [Finset.mem_singleton.mp hp])
    (fun g u hg => (hO g u hg).2)

theorem mayWait_bar (c : Dev nD) : (levAts L lv : sProp (MM F)) ⊢ MayWait (c : Thread nD τ) (.reg barSem) 0 (debt c 0) :=
  mayWait_of_lv c _ 0 (by omega) _ fun g j h => ⟨(debt_lv (by omega) h).1, by
    have := (debt_lv (by omega) h).2; rw [lv_bar]; omega⟩
theorem mayWait_recv (c : Dev nD) {n : ℕ} (hn : n < 186) :
    (levAts L lv : sProp (MM F)) ⊢ MayWait (c : Thread nD τ) (.dma (rsem n)) (n / 62) (debt c (n + 1)) :=
  mayWait_of_lv c _ _ (by omega) _ fun g j h => ⟨(debt_lv (by omega) h).1, by
    have := (debt_lv (by omega) h).2; rw [lv_recv]; omega⟩
theorem mayWait_send (c : Dev nD) {n : ℕ} (hn : n < 186) :
    (levAts L lv : sProp (MM F)) ⊢ MayWait (c : Thread nD τ) (.dma sendSem) 0 (debt c (n + 1)) :=
  mayWait_of_lv c _ _ (by omega) _ fun g j h => ⟨(debt_lv (by omega) h).1, by
    have := (debt_lv (by omega) h).2; rw [lv_send]; omega⟩

end Cert.RingMlp

end
-- ==== Proof.Transfer.lean ====
/-
One message: sent to the right neighbour, its counterpart from the left received, both awaited. The permissions to fill
slots pass on with it.
-/
module

public import proofs.«01_k».proof.Proof.Protocol

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem bs_insert {T : Type} [DecidableEq T] {s : Finset T} {i : T} (h : i ∉ s) (Φ : T → sProp (MM F)) :
    bigSep (insert i s) Φ = iprop(Φ i ∗ bigSep s Φ) := bigSep_insert h
theorem bs_elim {T : Type} [DecidableEq T] {s : Finset T} {i : T} (h : i ∈ s) (Φ : T → sProp (MM F)) : bigSep s Φ ⊢ Φ i :=
  bigSep_elim h
theorem bs_pop {n m : ℕ} (h : n < m) (Φ : ℕ → sProp (MM F)) :
    bigSep (Finset.Ico n m) Φ = iprop(Φ n ∗ bigSep (Finset.Ico (n + 1) m) Φ) := by rw [Ico_pop h]; exact bigSep_insert Ico_not_mem
theorem bs_push {n m : ℕ} (h : n ≤ m) (Φ : ℕ → sProp (MM F)) :
    bigSep (Finset.Ico n (m + 1)) Φ = iprop(Φ m ∗ bigSep (Finset.Ico n m) Φ) := by rw [Ico_push h]; exact bigSep_insert Ico_not_mem'

/-! ## The permissions on their way -/

/-- The permission device `c` adds when it sends message `n`: its own slot of message `n - 31`, which it no longer needs. -/
def Rel (c : Dev nD) (n : ℕ) : sProp (MM F) := if 31 ≤ n ∧ n < 155 then Free c (n + 31) else iprop(emp)

/-- The permissions left when the one for message `n` is taken out. -/
def TrM (c : Dev nD) (n : ℕ) : sProp (MM F) :=
  bigSep (Finset.Ico (max (n + 1) 62) (min (n + 31) 186)) fun m => Free (sh c (m + 1 + 31 * n)) m

theorem take_dst (c : Dev nD) {n : ℕ} (hn : n < 186) :
    iprop(Fr c n ∗ Tr c n) ⊢ (iprop(Free (sh c 1) n ∗ Fr c (n + 1) ∗ TrM c n) : sProp (MM F)) := by
  unfold Fr Tr TrM
  by_cases h : n < 62
  · rw [bs_pop h, show max n 62 = max (n + 1) 62 by omega]
    iintro ⟨⟨H1, H2⟩, H3⟩
    isplitl [H1]; · iexact H1
    isplitl [H2] <;> iassumption
  · rw [show max n 62 = n by omega, show max (n + 1) 62 = n + 1 by omega, bs_pop (show n < min (n + 31) 186 from lt_min (by omega) hn),
      sh_congr c (show (n + 1 + 31 * n) % 32 = 1 % 32 by omega),
      show Finset.Ico n 62 = ∅ from Finset.Ico_eq_empty (by omega), show Finset.Ico (n + 1) 62 = ∅ from Finset.Ico_eq_empty (by omega)]
    iintro ⟨H1, H2, H3⟩
    isplitl [H2]; · iexact H2
    isplitl [H1] <;> iassumption

theorem give_src (c : Dev nD) {n : ℕ} (hn : n < 186) :
    iprop(TrM c n ∗ Rel c n) ⊢ (Tr (sh c 1) (n + 1) : sProp (MM F)) := by
  have e : ∀ m, sh (sh c 1) (m + 1 + 31 * (n + 1)) = sh c (m + 1 + 31 * n) := fun m => by
    rw [sh_sh]; exact sh_congr c (by omega)
  unfold TrM Tr Rel
  simp only [e]
  by_cases h : 31 ≤ n ∧ n < 155
  · rw [if_pos h, show min (n + 1 + 31) 186 = n + 31 + 1 by omega, show min (n + 31) 186 = n + 31 by omega,
      bs_push (show max (n + 1) 62 ≤ n + 31 from max_le (by omega) (by omega)), sh_self c (show (n + 31 + 1 + 31 * n) % 32 = 0 by omega)]
    iintro ⟨H1, H2⟩
    isplitl [H2] <;> iassumption
  · rw [if_neg h]
    have : Finset.Ico (max (n + 1) 62) (min (n + 1 + 31) 186) = Finset.Ico (max (n + 1) 62) (min (n + 31) 186) := by
      ext i; rw [Finset.mem_Ico, Finset.mem_Ico]; omega
    rw [this]
    iintro ⟨H1, -⟩
    iexact H1

/-! ## The state between messages -/

/-- The cells' invariants at their names `K`, and that every cell has started. -/
def ringSems : Finset (SemLoc sig) := Finset.univ.filter fun sm => key sm ≤ 1 ∨ 18 ≤ key sm
def ringCells : Finset (GSem nD τ sig) :=
  (Finset.univ ×ˢ ringSems).map ⟨fun p : Dev nD × SemLoc sig => ((p.1 : Thread nD τ), p.2), fun a b h => by
    have h1 : a.1 = b.1 := congrArg (fun g : GSem nD τ sig => g.1.1) h
    have h2 : a.2 = b.2 := congrArg (fun g : GSem nD τ sig => g.2) h
    exact Prod.ext h1 h2⟩

theorem mem_ringCells (d : Dev nD) {sm : SemLoc sig} (h : key sm ≤ 1 ∨ 18 ≤ key sm) : ((d : Thread nD τ), sm) ∈ ringCells :=
  Finset.mem_map.mpr ⟨(d, sm), Finset.mem_product.mpr ⟨Finset.mem_univ _, Finset.mem_filter.mpr ⟨Finset.mem_univ _, h⟩⟩, rfl⟩

def Invs (I : Inp F) (K : GSem nD τ sig → ℕ) : sProp (MM F) :=
  iprop((bigSep ringCells fun g => cellInv ER (Rd I) (K g) g) ∗ (bigSep ringCells fun g => reached ER g 0) ∗ levAts L lv)

instance Invs_persistent (I : Inp F) (K : GSem nD τ sig → ℕ) : BI.Persistent (Invs I K) := by unfold Invs; infer_instance

section Invs
variable (I : Inp F) (K : GSem nD τ sig → ℕ)

theorem inv_at (d : Dev nD) {sm : SemLoc sig} (h : key sm ≤ 1 ∨ 18 ≤ key sm) :
    Invs I K ⊢ cellInv ER (Rd I) (K ((d : Thread nD τ), sm)) ((d : Thread nD τ), sm) := by
  unfold Invs
  iintro ⟨H, -⟩
  iapply (bs_elim (mem_ringCells d h) fun g => (cellInv ER (Rd I) (K g) g : sProp (MM F)))
  iexact H
theorem reached_at (d : Dev nD) {sm : SemLoc sig} (h : key sm ≤ 1 ∨ 18 ≤ key sm) :
    Invs I K ⊢ reached ER ((d : Thread nD τ), sm) 0 := by
  unfold Invs
  iintro ⟨-, H, -⟩
  iapply (bs_elim (mem_ringCells d h) fun g => (reached ER g 0 : sProp (MM F)))
  iexact H
theorem lev_at : Invs I K ⊢ (levAts L lv : sProp (MM F)) := by
  unfold Invs
  iintro ⟨-, -, H⟩
  iexact H
theorem wait_recv (c : Dev nD) {n : ℕ} (hn : n < 186) : Invs I K ⊢ (MayWait (c : Thread nD τ) (.dma (rsem n)) (n / 62) (debt c (n + 1)) : sProp (MM F)) := by
  unfold Invs
  iintro ⟨-, -, H⟩
  iapply (mayWait_recv c hn)
  iexact H
theorem wait_send (c : Dev nD) {n : ℕ} (hn : n < 186) : Invs I K ⊢ (MayWait (c : Thread nD τ) (.dma sendSem) 0 (debt c (n + 1)) : sProp (MM F)) := by
  unfold Invs
  iintro ⟨-, -, H⟩
  iapply (mayWait_send c hn)
  iexact H
theorem wait_bar (c : Dev nD) : Invs I K ⊢ (MayWait (c : Thread nD τ) (.reg barSem) 0 (debt c 0) : sProp (MM F)) := by
  unfold Invs
  iintro ⟨-, -, H⟩
  iapply (mayWait_bar c)
  iexact H

theorem inv_bar (d : Dev nD) : Invs I K ⊢ cellInv ER (Rd I) (K (bcell d)) (bcell d) := inv_at I K d (by rw [key_bar]; omega)
theorem inv_bar2 (d : Dev nD) : Invs I K ⊢ cellInv ER (Rd I) (K (b2cell d)) (b2cell d) := inv_at I K d (by rw [key_bar2]; omega)
theorem inv_recv (d : Dev nD) (n : ℕ) : Invs I K ⊢ cellInv ER (Rd I) (K (rcell d n)) (rcell d n) := inv_at I K d (by rw [key_recv]; omega)
theorem inv_send (d : Dev nD) : Invs I K ⊢ cellInv ER (Rd I) (K (scell d)) (scell d) := inv_at I K d (by rw [key_send]; omega)
end Invs

/-- The duties device `c` has yet to pay, and the credits it has yet to spend, from message `n` on. -/
def Tok (c : Dev nD) (n : ℕ) : sProp (MM F) :=
  bigSep (Finset.Ico n 186) fun j => iprop(dutyTok ER (rcell (sh c 1) j) (j / 62) false ∗ dutyTok ER (scell c) j false
    ∗ cred (tallyAt (rcell c j) (j / 62) (amt j)))

/-- The rounds its receive cells are at before message `n`. -/
def Pos (c : Dev nD) (n : ℕ) : sProp (MM F) := bigSep (Finset.range 62) fun σ => atPos ER (rcell c σ) ((n + 61 - σ) / 62) ∅ 0

/-- What device `c` holds before it sends message `n`, but for buffers. -/
def Core (c : Dev nD) (n : ℕ) : sProp (MM F) :=
  iprop(Tok c n ∗ Pos c n ∗ (atPos ER (scell c) n ∅ 0 ∗ reached ER (scell c) n) ∗ (∃ W, owes (c : Thread nD τ) (debt c n) W)
    ∗ Fr c n ∗ Tr c n)

/-- The cell that message `n` comes on, taken out; the others do not move. -/
theorem pos_take (c : Dev nD) (n : ℕ) :
    (Pos c n : sProp (MM F)) ⊢ iprop(atPos ER (rcell c n) (n / 62) ∅ 0 ∗ (atPos ER (rcell c n) (n / 62 + 1) ∅ 0 -∗ Pos c (n + 1))) := by
  have hm : n % 62 ∈ Finset.range 62 := Finset.mem_range.mpr (Nat.mod_lt _ (by decide))
  have e : rcell c (n % 62) = rcell c n := by unfold rcell; rw [rsem_congr (show n % 62 % 62 = n % 62 by omega)]
  unfold Pos
  rw [← Finset.insert_erase hm, bs_insert (Finset.notMem_erase _ _), bs_insert (Finset.notMem_erase _ _), e,
    show (n + 61 - n % 62) / 62 = n / 62 by omega, show (n + 1 + 61 - n % 62) / 62 = n / 62 + 1 by omega,
    bigSep_congr (s := (Finset.range 62).erase (n % 62)) (Ψ := fun σ => (atPos ER (rcell c σ) ((n + 1 + 61 - σ) / 62) ∅ 0 : sProp (MM F)))
      fun σ hσ => by
        have h1 := Finset.ne_of_mem_erase hσ
        have h2 := Finset.mem_range.mp (Finset.mem_of_mem_erase hσ)
        rw [show (n + 61 - σ) / 62 = (n + 1 + 61 - σ) / 62 by omega]]
  iintro ⟨H1, H2⟩
  isplitl [H1]; · iexact H1
  iintro H
  isplitl [H] <;> iassumption

/-! ## One message -/

/-- Message `n`, sent from `src` to `dst` of the right neighbour, and its two waits. -/
theorem wp_xfer (I : Inp F) (K : GSem nD τ sig → ℕ) (c : Dev nD) {n : ℕ} (hn : n < 186) {t : Dev nD} (ht : t = sh c 1)
    {e : EltTy} {src dst : Memref sig .tc .vmem S512x256 e} {q : DmaSem sig} (hq : q = rsem n)
    {hsc : (dst : Memref sig (Dev.tc t : Thread nD τ).2.kind .vmem S512x256 e).view.ref.isScScratch = false}
    {hsrc : src.view.WordExact} {hdst : dst.view.WordExact}
    {hsem : DmaTarget.Typed .vmem (.dma q) (.remote (Dev.tc t : Thread nD τ) dst (.dma sendSem) hsc)}
    {w1 w2 w3 w4 : Memref sig .tc .vmem S512x256 e} {h1 : w1.view.WordExact} {h2 : w2.view.WordExact}
    {h3 : w3.view.WordExact} {h4 : w4.view.WordExact}
    (hN : dst.view.dmaCredit = amt n) (hN2 : w2.view.dmaCredit = amt n) (hN4 : w4.view.dmaCredit = amt n)
    (v : Vec F S512x256 e)
    (hs : ∀ fs, (src.view.loc (c : Thread nD τ) ↦[src.view.set]{fullShare} fs) ⊢ (srcAny c n : sProp (MM F)))
    (hd : dstAny (sh c 1) n ⊢ (iprop(∃ fd, dst.view.loc (sh c 1 : Thread nD τ) ↦[dst.view.set]{fullShare} fd) : sProp (MM F)))
    (hl : ∀ fd : dst.view.ty.Contents (Elt F), (dst.view.loc (sh c 1 : Thread nD τ) ↦[dst.view.set]{fullShare} dst.view.write (Elt F) fd v Finset.univ)
      ⊢ (landed I (sh c 1) n : sProp (MM F)))
    {α : Type} {k : PUnit → Prog (Eff F) α} {Q : α → sProp (MM F)} :
    iprop(Invs I K ∗ Core c n ∗ Rel c n ∗ (∃ fs, ⌜src.view.read (Elt F) fs = v⌝ ∗ (src.view.loc (c : Thread nD τ) ↦[src.view.set]{fullShare} fs)))
      ⊢ iprop(((Core c (n + 1) ∗ srcAny c n ∗ landed I c n ∗ reached ER (rcell c n) (n / 62 + 1)) -∗ WP c (k ⟨⟩) Q)
        -∗ WP c (.op (.enqueueDma src (.remote (Dev.tc t) dst (.dma sendSem) hsc) (.dma q) hsrc hdst hsem) fun _ =>
          .op (.waitDma2 q w1 w2 h1 h2) fun _ => .op (.waitDma2 sendSem w3 w4 h3 h4) k) Q) := by
  subst ht hq
  unfold Core Tok
  rw [bs_pop hn]
  iintro ⟨#HI, ⟨⟨⟨HtR, HtS, Hcr⟩, Htok⟩, Hpos, ⟨HatS, HrS⟩, ⟨%W, HO⟩, HFr, HTr⟩, HRel, ⟨%fs, %hfs, Hsrc⟩⟩ Hk
  ihave HD := (take_dst c hn) $$ [HFr HTr]
  · isplitl [HFr] <;> iassumption
  icases HD with ⟨Hfree, HFr, HTM⟩
  unfold Free
  icases Hfree with ⟨Hdst, HrD⟩
  ihave HTn := (give_src c hn) $$ [HTM HRel]
  · isplitl [HTM] <;> iassumption
  ihave Hd := hd $$ Hdst
  icases Hd with ⟨%fd, Hdst⟩
  ihave HP := (pos_take c n) $$ Hpos
  icases HP with ⟨HatR, Hpos⟩
  iapply (Rounds.wp_send_pointsTo_with 𝒱₀ ER (Rd I) (c : Thread nD τ) none (κ₁ := K (scell c)) (κ₂ := K (rcell (sh c 1) n))
    (r₁ := n) (r₂ := n / 62) (d₁ := false) (d₂ := false) (fs := fs) (fd := fd) (F := Tr (sh c 1) (n + 1))
    (by rw [duties_send I c hn]; exact Finset.mem_singleton_self _) (by rw [duties_recv I (sh c 1) hn]; exact Finset.mem_singleton_self _)
    (n / 62) 0 (amt n) (by exact hN) (amount_send I c n false) (amount_recv I (sh c 1) n _ false) (debt c (n + 1)) (debt_succ c hn) (W := W)
    (by rw [payload_send]; exact hs fs)
    (by rw [payload_recv, hfs]; unfold recvPay; exact sep_mono_left (hl fd))) $$ [Hsrc Hdst HTn HO HtS HrS HtR HrD]
  · isplitr; · iapply (inv_send I K c); iexact HI
    isplitr; · iapply (inv_recv I K (sh c 1) n); iexact HI
    isplitl [Hsrc]; · iexact Hsrc
    isplitl [Hdst HTn]
    · isplitl [Hdst] <;> iassumption
    isplitl [HO]; · iexact HO
    isplitl [HtS]; · iexact HtS
    isplitl [HrS]; · iexact HrS
    isplitl [HtR] <;> iassumption
  iintro ⟨HcS, HO⟩
  iapply (Rounds.wp_wait_rest_token 𝒱₀ ER (Rd I) (c : Thread nD τ) none (κ := K (rcell c n))
      (k' := amt n) (fun K => by rw [← hN2]; exact wpE_waitDma2_eq 𝒱₀ (c : Thread nD τ) none Set.univ K) (Set.mem_univ _) (n / 62) (O := debt c (n + 1)) (W := W) (R := n / 62) (m := 0) (T := ∅)
      (by rw [Nat.zero_add, expect_recv I c hn])) $$ [Hcr HO HatR]
  · isplitr; · iapply (inv_recv I K c n); iexact HI
    isplitl [Hcr]; · iexact Hcr
    isplitl [HO]; · iexact HO
    isplitr; · iapply (wait_recv I K c hn); iexact HI
    iexact HatR
  iintro ⟨HO, HatR, HrR, Hpay⟩
  ihave Hp := (Entails.of_eq (rest_recv I c hn)) $$ Hpay
  unfold recvPay
  icases Hp with ⟨Hland, HTr⟩
  iapply (Rounds.wp_wait_rest_token 𝒱₀ ER (Rd I) (c : Thread nD τ) none (κ := K (scell c))
      (k' := amt n) (fun K => by rw [← hN4]; exact wpE_waitDma2_eq 𝒱₀ (c : Thread nD τ) none Set.univ K) (Set.mem_univ _) 0 (O := debt c (n + 1)) (R := n) (m := 0) (T := ∅)
      (by rw [Nat.zero_add, expect_send I c hn])) $$ [HcS HO HatS]
  · isplitr; · iapply (inv_send I K c); iexact HI
    isplitl [HcS]; · iexact HcS
    isplitl [HO]; · iexact HO
    isplitr; · iapply (wait_send I K c hn); iexact HI
    iexact HatS
  iintro ⟨HO, HatS, HrS, Hpay⟩
  ihave Hs := (Entails.of_eq (rest_send I c hn)) $$ Hpay
  iapply Hk
  isplitr [Hs Hland HrR]
  · isplitl [Htok]; · iexact Htok
    isplitl [Hpos HatR]; · iapply Hpos; iexact HatR
    isplitl [HatS HrS]
    · isplitl [HatS] <;> iassumption
    isplitl [HO]; · iexists _; iexact HO
    isplitl [HFr] <;> iassumption
  isplitl [Hs]; · iexact Hs
  isplitl [Hland] <;> iassumption

end Cert.RingMlp

end
-- ==== Proof.Steps.lean ====
/-
The steps of the two rings: what a device holds between them, and each ring as the loop of its steps.
-/
module

public import proofs.«01_k».proof.Proof.Transfer

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The free slots a device holds -/

/-- The slots of messages `a` to `b`, received, read and sent on: free for the messages a round later. -/
def Slots (c : Dev nD) (a b : ℕ) : sProp (MM F) := bigSep (Finset.Ico a b) fun j => Free c (j + 62)

/-- The first message whose slot device `c` has not given away when it is to send message `n`. -/
def low (n : ℕ) : ℕ := min (n - 31) 124

theorem slots_rel (c : Dev nD) {n b : ℕ} (h : 31 ≤ n → n - 31 < b) :
    (Slots c (low n) b : sProp (MM F)) ⊢ iprop(Rel c n ∗ Slots c (low (n + 1)) b) := by
  unfold Slots Rel low
  by_cases hn : 31 ≤ n ∧ n < 155
  · rw [if_pos hn, show min (n - 31) 124 = n - 31 by omega, bs_pop (h hn.1), show n - 31 + 62 = n + 31 by omega,
      show min (n + 1 - 31) 124 = n - 31 + 1 by omega]
  · rw [if_neg hn, show min (n + 1 - 31) 124 = min (n - 31) 124 by omega]
    iintro H
    isplitr
    · iempintro
    iexact H

theorem slots_push (c : Dev nD) {a b : ℕ} (h : a ≤ b) :
    iprop(dstAny c (b + 62) ∗ reached ER (rcell c b) (b / 62 + 1) ∗ Slots c a b) ⊢ (Slots c a (b + 1) : sProp (MM F)) := by
  unfold Slots
  rw [bs_push h]
  unfold Free
  rw [show (b + 62) / 62 = b / 62 + 1 by omega, show rcell c (b + 62) = rcell c b from by
    unfold rcell; rw [rsem_congr (show (b + 62) % 62 = b % 62 by omega)]]
  iintro ⟨H1, H2, H3⟩
  isplitr [H3]
  · isplitl [H1] <;> iassumption
  iexact H3

/-- What a device holds besides the slot it sends from, before step `s` of a ring over `M`, message `n`. -/
def Rest (c : Dev nD) {e : EltTy} (M : Memref sig .tc .vmem S32x512x256 e) (n s : ℕ) : sProp (MM F) :=
  if s = 0 then Slots c (low n) n
  else iprop(Slots c (low n) (n - 1) ∗ reached ER (rcell c (n - 1)) ((n - 1) / 62 + 1) ∗ slAny c M 31)
/-- The same while the message is under way. -/
def RestM (c : Dev nD) {e : EltTy} (M : Memref sig .tc .vmem S32x512x256 e) (n s : ℕ) : sProp (MM F) :=
  if s = 0 then Slots c (low (n + 1)) n
  else iprop(Slots c (low (n + 1)) (n - 1) ∗ reached ER (rcell c (n - 1)) ((n - 1) / 62 + 1) ∗ slAny c M 31)

/-- The slot before step `s`. -/
def prv (s : ℕ) : Fin 32 := ⟨(s + 31) % 32, Nat.mod_lt _ (by decide)⟩

theorem rest_out (c : Dev nD) {e : EltTy} (M : Memref sig .tc .vmem S32x512x256 e) (n s : ℕ) :
    (Rest c M n s : sProp (MM F)) ⊢ iprop(Rel c n ∗ RestM c M n s) := by
  unfold Rest RestM
  split
  · exact slots_rel c (by omega)
  · iintro ⟨H1, H2⟩
    ihave H := (slots_rel c (by omega)) $$ H1
    icases H with ⟨H1, H3⟩
    isplitl [H1]; · iexact H1
    isplitl [H3] <;> iassumption

theorem rest_in (c : Dev nD) {e : EltTy} (M : Memref sig .tc .vmem S32x512x256 e) {n s : ℕ} (hsn : s ≤ n)
    (hs : s ≠ 0 → (slAny c M (prv s) : sProp (MM F)) = dstAny c (n - 1 + 62)) :
    iprop(RestM c M n s ∗ slAny c M (prv s) ∗ reached ER (rcell c n) (n / 62 + 1)) ⊢ (Rest c M (n + 1) (s + 1) : sProp (MM F)) := by
  unfold Rest RestM
  rw [if_neg (Nat.succ_ne_zero s), Nat.add_sub_cancel]
  by_cases h : s = 0
  · subst h
    rw [if_pos rfl]
    iintro ⟨H1, H2, H3⟩
    isplitl [H1]; · iexact H1
    isplitl [H3]; · iexact H3
    iexact H2
  · rw [if_neg h, hs h]
    obtain ⟨k, rfl⟩ : ∃ k, n = k + 1 := ⟨n - 1, by omega⟩
    rw [Nat.add_sub_cancel]
    iintro ⟨⟨H1, H4, H5⟩, H2, H3⟩
    isplitl [H1 H2 H4]
    · iapply (slots_push c (b := k) (by unfold low; omega))
      isplitl [H2]; · iexact H2
      isplitl [H4] <;> iassumption
    isplitl [H3] <;> iassumption

theorem rest_end (c : Dev nD) {e : EltTy} (M : Memref sig .tc .vmem S32x512x256 e) {n s : ℕ} (hsn : s ≤ n) (h : s ≠ 0)
    (hs : (slAny c M (prv s) : sProp (MM F)) = dstAny c (n - 1 + 62)) :
    iprop(Rest c M n s ∗ slAny c M (prv s)) ⊢ (iprop(Slots c (low n) n ∗ slAny c M 31) : sProp (MM F)) := by
  unfold Rest
  rw [if_neg h, hs]
  obtain ⟨k, rfl⟩ : ∃ k, n = k + 1 := ⟨n - 1, by omega⟩
  rw [Nat.add_sub_cancel]
  iintro ⟨⟨H1, H4, H5⟩, H2⟩
  isplitr [H5]
  · iapply (slots_push c (b := k) (by unfold low; omega))
    isplitl [H2]; · iexact H2
    isplitl [H4] <;> iassumption
  iexact H5

theorem prv_cm (c : Dev nD) (l : ℕ) {s : ℕ} (h0 : s ≠ 0) (h : s ≤ 31) :
    (slAny c cm (prv s) : sProp (MM F)) = dstAny c (62 * l + s - 1 + 62) := by
  unfold dstAny
  rw [dif_pos (by omega)]
  congr 1
  exact Fin.ext (show (s + 31) % 32 = (62 * l + s - 1 + 62) % 62 by omega)
theorem prv_stg (c : Dev nD) (l : ℕ) {s : ℕ} (h0 : s ≠ 0) (h : s ≤ 31) :
    (slAny c stg (prv s) : sProp (MM F)) = dstAny c (62 * l + 31 + s - 1 + 62) := by
  unfold dstAny
  rw [dif_neg (by omega)]
  congr 1
  exact Fin.ext (show (s + 31) % 32 = (62 * l + 31 + s - 1 + 62) % 62 - 31 by omega)

/-! ## One transfer of each ring -/

theorem wp_agXfer (I : Inp F) (K : GSem nD τ sig → ℕ) (c : Dev nD) {l s : ℕ} (hl : l < 3) (hs : s < 31)
    {k : Prog (Eff F) PUnit} {Q : PUnit → sProp (MM F)} :
    iprop(Invs I K ∗ Core c (62 * l + s) ∗ Rel c (62 * l + s) ∗ slP c cm (prv s) (Xv I l (sh c (32 - s))))
      ⊢ iprop(((Core c (62 * l + s + 1) ∗ slAny c cm (prv s) ∗ slP c cm (dstI ⟨s, hs⟩) (Xv I l (sh c (31 - s)))
          ∗ reached ER (rcell c (62 * l + s)) ((62 * l + s) / 62 + 1)) -∗ WP c k Q)
        -∗ WP c (agXfer (rgt c) ⟨s, hs⟩ k) Q) := by
  have hm : (62 * l + s) % 62 = s := by omega
  have hd : (62 * l + s) / 62 = l := by omega
  have hp : (62 * l + s) % 62 < 31 := by omega
  have hA : amt (62 * l + s) = NA := if_pos hp
  have es : (srcAny c (62 * l + s) : sProp (MM F)) = slAny c cm (prv s) := by
    unfold srcAny
    rw [dif_pos hp]
    congr 1
    exact Fin.ext (show ((62 * l + s) % 62 + 31) % 32 = (s + 31) % 32 by rw [hm])
  have ed : ∀ d : Dev nD, (dstAny d (62 * l + s) : sProp (MM F)) = slAny d cm (dstI ⟨s, hs⟩) := fun d => by
    unfold dstAny
    rw [dif_pos hp]
    congr 1
    exact Fin.ext hm
  have el : ∀ d : Dev nD, landed I d (62 * l + s) = slP d cm (dstI ⟨s, hs⟩) (Xv I l (sh d (31 - s))) := fun d => by
    unfold landed
    rw [dif_pos hp, hd]
    congr 1
    · exact Fin.ext hm
    · rw [hm]
  have X := wp_xfer I K c (n := 62 * l + s) (by omega) (rgt_eq c) (src := cmS (srcI ⟨s, hs⟩)) (dst := cmS (dstI ⟨s, hs⟩))
    (q := agSem ⟨s, hs⟩) (w1 := cmS (srcI ⟨s, hs⟩)) (w2 := cmS (dstI ⟨s, hs⟩)) (w3 := cmS (dstI ⟨s, hs⟩))
    (w4 := cmS (srcI ⟨s, hs⟩)) (h1 := (((Memref.isWhole_whole cc0_scratch3).wordExact_slice rfl _ (words_slot (srcI ⟨s, hs⟩))).reshape _ _))
    (h2 := (((Memref.isWhole_whole cc0_scratch3).wordExact_slice rfl _ (words_slot (dstI ⟨s, hs⟩))).reshape _ _))
    (h3 := (((Memref.isWhole_whole cc0_scratch3).wordExact_slice rfl _ (words_slot (dstI ⟨s, hs⟩))).reshape _ _))
    (h4 := (((Memref.isWhole_whole cc0_scratch3).wordExact_slice rfl _ (words_slot (srcI ⟨s, hs⟩))).reshape _ _))
    (hsrc := (((Memref.isWhole_whole cc0_scratch3).wordExact_slice rfl _ (words_slot (srcI ⟨s, hs⟩))).reshape _ _))
    (hdst := (((Memref.isWhole_whole cc0_scratch3).wordExact_slice rfl _ (words_slot (dstI ⟨s, hs⟩))).reshape _ _))
    (hsc := rfl) (hsem := ⟨⟨rfl, Or.inl rfl⟩, trivial⟩)
    ((agSem_eq _).trans (rsem_congr (show s % 62 = (62 * l + s) % 62 by omega))) (by rw [hA]) (by rw [hA]) (by rw [hA])
    (Xv I l (sh c (32 - s)))
    (fun fs => by
      rw [es]; unfold slAny
      iintro H; iexists fs; iexact H)
    (by rw [ed]; unfold slAny; exact Entails.rfl)
    (fun fd => by
      rw [el]; unfold slP
      iintro H
      iexists ((cmS (dstI ⟨s, hs⟩)).view.write (Elt F) fd (Xv I l (sh c (32 - s))) Finset.univ)
      isplitr
      · ipureintro
        refine (View.read_write_univ (v := (cmS (dstI ⟨s, hs⟩)).view) fd _).trans ?_
        rw [sh_sh]; exact congrArg _ (sh_congr c (by omega))
      iexact H)
    (k := fun _ => k) (Q := Q)
  rw [es, el] at X
  exact X

theorem wp_rsXfer (I : Inp F) (K : GSem nD τ sig → ℕ) (c : Dev nD) {l s : ℕ} (hl : l < 3) (hs : s < 31)
    {k : Prog (Eff F) PUnit} {Q : PUnit → sProp (MM F)} :
    iprop(Invs I K ∗ Core c (62 * l + 31 + s) ∗ Rel c (62 * l + 31 + s) ∗ slP c stg (prv s) (Av (PP I l) s c))
      ⊢ iprop(((Core c (62 * l + 31 + s + 1) ∗ slAny c stg (prv s) ∗ slP c stg (dstI ⟨s, hs⟩) (Av (PP I l) s (sh c 31))
          ∗ reached ER (rcell c (62 * l + 31 + s)) ((62 * l + 31 + s) / 62 + 1)) -∗ WP c k Q)
        -∗ WP c (rsXfer (rgt c) ⟨s, hs⟩ k) Q) := by
  have hm : (62 * l + 31 + s) % 62 - 31 = s := by omega
  have hd : (62 * l + 31 + s) / 62 = l := by omega
  have hp : ¬ (62 * l + 31 + s) % 62 < 31 := by omega
  have hA : amt (62 * l + 31 + s) = NR := if_neg hp
  have es : (srcAny c (62 * l + 31 + s) : sProp (MM F)) = slAny c stg (prv s) := by
    unfold srcAny
    rw [dif_neg hp]
    congr 1
    exact Fin.ext (show ((62 * l + 31 + s) % 62 - 31 + 31) % 32 = (s + 31) % 32 by rw [hm])
  have ed : ∀ d : Dev nD, (dstAny d (62 * l + 31 + s) : sProp (MM F)) = slAny d stg (dstI ⟨s, hs⟩) := fun d => by
    unfold dstAny
    rw [dif_neg hp]
    congr 1
    exact Fin.ext hm
  have el : ∀ d : Dev nD, landed I d (62 * l + 31 + s) = slP d stg (dstI ⟨s, hs⟩) (Av (PP I l) s (sh d 31)) := fun d => by
    unfold landed
    rw [dif_neg hp, hd]
    congr 1
    · exact Fin.ext hm
    · rw [hm]
  have X := wp_xfer I K c (n := 62 * l + 31 + s) (by omega) (rgt_eq c) (src := stgS (srcI ⟨s, hs⟩)) (dst := stgS (dstI ⟨s, hs⟩))
    (q := rsSem ⟨s, hs⟩) (w1 := stgS (dstI ⟨s, hs⟩)) (w2 := stgS (dstI ⟨s, hs⟩)) (w3 := stgS (dstI ⟨s, hs⟩))
    (w4 := stgS (srcI ⟨s, hs⟩)) (h1 := (View.wordExact_bits rfl).reshape _ _) (h2 := (View.wordExact_bits rfl).reshape _ _)
    (h3 := (View.wordExact_bits rfl).reshape _ _) (h4 := (View.wordExact_bits rfl).reshape _ _)
    (hsrc := (View.wordExact_bits rfl).reshape _ _) (hdst := (View.wordExact_bits rfl).reshape _ _)
    (hsc := rfl) (hsem := ⟨⟨rfl, Or.inl rfl⟩, trivial⟩)
    ((rsSem_eq _).trans (rsem_congr (show (s + 31) % 62 = (62 * l + 31 + s) % 62 by omega))) (by rw [hA]) (by rw [hA]) (by rw [hA])
    (Av (PP I l) s c)
    (fun fs => by
      rw [es]; unfold slAny
      iintro H; iexists fs; iexact H)
    (by rw [ed]; unfold slAny; exact Entails.rfl)
    (fun fd => by
      rw [el]; unfold slP
      iintro H
      iexists ((stgS (dstI ⟨s, hs⟩)).view.write (Elt F) fd (Av (PP I l) s c) Finset.univ)
      isplitr
      · ipureintro
        refine (View.read_write_univ (v := (stgS (dstI ⟨s, hs⟩)).view) fd _).trans ?_
        rw [sh_sh]; exact congrArg _ (sh_self c (by omega)).symm
      iexact H)
    (k := fun _ => k) (Q := Q)
  rw [es, el] at X
  exact X

/-! ## The all-gather -/

/-- Before its step `s`: the blocks that have come in by then are in place. -/
def AGI (I : Inp F) (c : Dev nD) (l s : ℕ) : sProp (MM F) :=
  iprop(Core c (62 * l + s) ∗ slP c cm (prv s) (Xv I l (sh c (32 - s))) ∗ Rest c cm (62 * l + s) s
    ∗ chP c xg (fun j => (c.val + 32 - j.val) % 32 ≤ s) (Xv I l))

theorem wp_agStep (I : Inp F) (K : GSem nD τ sig → ℕ) (c : Dev nD) {l s : ℕ} (hl : l < 3) (hs : s < 31)
    {k : Prog (Eff F) PUnit} {Q : PUnit → sProp (MM F)} :
    iprop(Invs I K ∗ AGI I c l s) ⊢ iprop((AGI I c l (s + 1) -∗ WP c k Q) -∗ WP c (agStep c ⟨s, hs⟩ k) Q) := by
  unfold AGI agStep
  iintro ⟨#HI, HC, HS, HR, Hx⟩ Hk
  ihave HR := (rest_out c cm (62 * l + s) s) $$ HR
  icases HR with ⟨HRel, HR⟩
  iapply (wp_agXfer I K c hl hs) $$ [HC HRel HS]
  · isplitr; · iexact HI
    isplitl [HC]; · iexact HC
    isplitl [HRel] <;> iassumption
  iintro ⟨HC, Hold, Hnew, Hr⟩
  unfold agCopy
  iapply (wp_ldS c) $$ Hnew
  iintro %x %hx Hnew
  iapply (wp_ld_any c) $$ Hx
  iintro %y Hx
  iapply (wp_st c (S' := fun j => (c.val + 32 - j.val) % 32 ≤ s + 1) (V' := Xv I l) (sh c (31 - s))
    (by rw [off2_eq, sh_val, show c.val + 31 - s = c.val + (31 - s) by omega])
    (fun _ => by rw [shapeCast_self, hx])
    (fun i hi h => ⟨by
      by_contra hc
      refine hi (Fin.ext ?_)
      have h1 : c.val < 32 := c.isLt
      have h2 := i.isLt
      rw [sh_val]; omega, rfl⟩)) $$ Hx
  iintro Hx
  iapply Hk
  isplitl [HC]; · iexact HC
  isplitl [Hnew]
  · rw [show prv (s + 1) = dstI ⟨s, hs⟩ from Fin.ext (show (s + 1 + 31) % 32 = s by omega), show 32 - (s + 1) = 31 - s by omega]
    iexact Hnew
  isplitr [Hx]
  · iapply (rest_in c cm (n := 62 * l + s) (s := s) (by omega) (fun h0 => prv_cm c l h0 (by omega)))
    isplitl [HR]; · iexact HR
    isplitl [Hold] <;> iassumption
  iexact Hx

theorem wp_agLoop (I : Inp F) (K : GSem nD τ sig → ℕ) (c : Dev nD) {l : ℕ} (hl : l < 3) (n : ℕ) (h : n ≤ 31)
    {k : Prog (Eff F) PUnit} {Q : PUnit → sProp (MM F)} :
    iprop(Invs I K ∗ AGI I c l (31 - n)) ⊢ iprop((AGI I c l 31 -∗ WP c k Q) -∗ WP c (agLoop c n h k) Q) := by
  induction n with
  | zero =>
    iintro ⟨-, H⟩ Hk
    iapply Hk; iexact H
  | succ n ih =>
    rw [show 31 - (n + 1) = 30 - n by omega]
    unfold agLoop
    iintro ⟨#HI, H⟩ Hk
    iapply (wp_agStep I K c hl (s := 30 - n) _) $$ [H]
    · isplitr; · iexact HI
      iexact H
    iintro H
    rw [show 30 - n + 1 = 31 - n by omega]
    iapply (ih (Nat.le_of_succ_le h)) $$ [H]
    · isplitr; · iexact HI
      iexact H
    iexact Hk

/-! ## The reduce-scatter -/

/-- Before its step `s`: the running sum in the slot it sends from, the products in place. -/
def RSI (I : Inp F) (c : Dev nD) (l s : ℕ) : sProp (MM F) :=
  iprop(Core c (62 * l + 31 + s) ∗ slP c stg (prv s) (Av (PP I l) s c) ∗ Rest c stg (62 * l + 31 + s) s
    ∗ chP c pb (fun _ => True) (PP I l c))

theorem wp_rsStep (I : Inp F) (K : GSem nD τ sig → ℕ) (c : Dev nD) {l s : ℕ} (hl : l < 3) (hs : s < 30)
    {k : Prog (Eff F) PUnit} {Q : PUnit → sProp (MM F)} :
    iprop(Invs I K ∗ RSI I c l s) ⊢ iprop((RSI I c l (s + 1) -∗ WP c k Q) -∗ WP c (rsStep c ⟨s, hs⟩ k) Q) := by
  unfold RSI rsStep
  iintro ⟨#HI, HC, HS, HR, Hp⟩ Hk
  ihave HR := (rest_out c stg (62 * l + 31 + s) s) $$ HR
  icases HR with ⟨HRel, HR⟩
  iapply (wp_rsXfer I K c hl (Nat.lt_succ_of_lt hs)) $$ [HC HRel HS]
  · isplitr; · iexact HI
    isplitl [HC]; · iexact HC
    isplitl [HRel] <;> iassumption
  iintro ⟨HC, Hold, Hnew, Hr⟩
  unfold rsAdd
  iapply (wp_ldS c) $$ Hnew
  iintro %x %hx Hnew
  iapply (wp_ld c (sh c (30 - s))
    (by rw [off2_eq', sh_val, show c.val + 30 - s = c.val + (30 - s) by omega]) trivial) $$ Hp
  iintro Hp
  ihave Hnew := (slP_any c stg _ _) $$ Hnew
  iapply (wp_ldS_any c) $$ Hnew
  iintro %y Hnew
  iapply (wp_stS c) $$ Hnew
  iintro Hnew
  iapply Hk
  isplitl [HC]; · iexact HC
  isplitl [Hnew]
  · rw [show prv (s + 1) = dstI ⟨s, Nat.lt_succ_of_lt hs⟩ from Fin.ext (show (s + 1 + 31) % 32 = s by omega), hx]
    iexact Hnew
  isplitr [Hp]
  · iapply (rest_in c stg (n := 62 * l + 31 + s) (s := s) (by omega) (fun h0 => prv_stg c l h0 (by omega)))
    isplitl [HR]; · iexact HR
    isplitl [Hold] <;> iassumption
  iexact Hp

theorem wp_rsLoop (I : Inp F) (K : GSem nD τ sig → ℕ) (c : Dev nD) {l : ℕ} (hl : l < 3) (n : ℕ) (h : n ≤ 30)
    {k : Prog (Eff F) PUnit} {Q : PUnit → sProp (MM F)} :
    iprop(Invs I K ∗ RSI I c l (30 - n)) ⊢ iprop((RSI I c l 30 -∗ WP c k Q) -∗ WP c (rsLoop c n h k) Q) := by
  induction n with
  | zero =>
    iintro ⟨-, H⟩ Hk
    iapply Hk; iexact H
  | succ n ih =>
    rw [show 30 - (n + 1) = 29 - n by omega]
    unfold rsLoop
    iintro ⟨#HI, H⟩ Hk
    iapply (wp_rsStep I K c hl (s := 29 - n) _) $$ [H]
    · isplitr; · iexact HI
      iexact H
    iintro H
    rw [show 29 - n + 1 = 30 - n by omega]
    iapply (ih (Nat.le_of_succ_le h)) $$ [H]
    · isplitr; · iexact HI
      iexact H
    iexact Hk

/-- The last step, and the sum. -/
theorem wp_rsEnd (I : Inp F) (K : GSem nD τ sig → ℕ) (c : Dev nD) {l : ℕ} (hl : l < 3)
    {k : FVec F S512x256 .f32 → Prog (Eff F) PUnit} {Q : PUnit → sProp (MM F)} :
    iprop(Invs I K ∗ RSI I c l 30) ⊢ iprop(((Core c (62 * (l + 1)) ∗ Slots c (low (62 * (l + 1))) (62 * (l + 1)) ∗ slAny c stg 31
        ∗ chP c pb (fun _ => True) (PP I l c)) -∗ WP c (k (Tot (PP I l) c)) Q)
      -∗ WP c (rsXfer (rgt c) 30 (rsLast c k)) Q) := by
  unfold RSI
  iintro ⟨#HI, HC, HS, HR, Hp⟩ Hk
  ihave HR := (rest_out c stg (62 * l + 31 + 30) 30) $$ HR
  icases HR with ⟨HRel, HR⟩
  iapply (wp_rsXfer I K c hl (s := 30) (by omega)) $$ [HC HRel HS]
  · isplitr; · iexact HI
    isplitl [HC]; · iexact HC
    isplitl [HRel] <;> iassumption
  iintro ⟨HC, Hold, Hnew, Hr⟩
  unfold rsLast
  iapply (wp_ldS c) $$ Hnew
  iintro %x %hx Hnew
  iapply (wp_ld c c (k0_off1_eq c) trivial) $$ Hp
  iintro Hp
  rw [hx, show 62 * (l + 1) = 62 * l + 31 + 31 by omega]
  iapply Hk
  isplitl [HC]; · iexact HC
  ihave HR := (rest_in c stg (n := 62 * l + 31 + 30) (s := 30) (by omega) (fun h0 => prv_stg c l h0 (by omega))) $$ [HR Hold Hr]
  · isplitl [HR]; · iexact HR
    isplitl [Hold] <;> iassumption
  ihave Hnew := (slP_any c stg _ _) $$ Hnew
  ihave HR := (rest_end c stg (n := 62 * l + 31 + 31) (s := 31) (by omega) (by omega) (prv_stg c l (by omega) (by omega))) $$ [HR Hnew]
  · isplitl [HR]; · iexact HR
    iexact Hnew
  icases HR with ⟨HR, Hl⟩
  isplitl [HR]; · iexact HR
  isplitl [Hl] <;> iassumption

end Cert.RingMlp

end
-- ==== Proof.Layer.lean ====
/-
One layer on one device: its block gathered, the weights copied, the blocks multiplied, the sums scattered.
-/
module

public import proofs.«01_k».proof.Proof.Steps
public import Idealize.ShloMosaic.Lib.Scf

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Whole buffers -/

/-- A whole buffer held, reading `v`. -/
def bufP (c : Dev nD) {s : Shape} {e : EltTy} (M : Memref sig .tc .vmem s e) (v : Vec F s e) : sProp (MM F) :=
  iprop(∃ f, ⌜M.view.read (Elt F) f = v⌝ ∗ (M.view.loc (c : Thread nD τ) ↦[M.view.set]{fullShare} f))

theorem emb_full {s : Shape} {off : Fin s.rank → ℕ} {inb : ∀ a, off a + s.size a ≤ s.size a} (x : s.Idx) :
    (Rect.unit (s := s) off s.size inb).emb x = x :=
  funext fun a => Fin.ext (by
    show off a + 1 * (x a).val = (x a).val
    have := inb a; omega)

theorem wp_ldB (c : Dev nD) {s : Shape} {e : EltTy} {M : Memref sig .tc .vmem s e} {v : Vec F s e} {off : Fin s.rank → ℕ}
    {inb : ∀ a, off a + s.size a ≤ s.size a} {hl} {α : Type} {k : Vec F s e → Prog (Eff F) α} {Q : α → sProp (MM F)} :
    bufP c M v ⊢ iprop((bufP c M v -∗ WP c (k v) Q)
      -∗ WP c (.op (.load M (Rect.unit (s := s) off s.size inb).toLoadRect hl) k) Q) := by
  unfold bufP
  iintro ⟨%f, %hf, Hf⟩ Hk
  iapply (wp_load 𝒱₀ (c : Thread nD τ) none Set.univ (m := M) (S := M.view.set)
    (Finset.map_subset_map.mpr (Finset.subset_univ _))) $$ Hf
  iintro Hf
  rw [show M.view.readAt (Elt F) (Rect.unit (s := s) off s.size inb).toLoadRect f = v from
    (funext fun x => congrArg (M.view.read (Elt F) f) (emb_full x) : _ = M.view.read (Elt F) f).trans hf]
  iapply Hk
  iexists f
  isplitr; · (ipureintro; exact hf)
  iexact Hf

theorem wp_stB (c : Dev nD) {s : Shape} {e : EltTy} {M : Memref sig .tc .vmem s e} {v w : Vec F s e} {off : Fin s.rank → ℕ}
    {inb : ∀ a, off a + s.size a ≤ s.size a} {hx} {hm} {α : Type} {k : PUnit → Prog (Eff F) α} {Q : α → sProp (MM F)} :
    bufP c M v ⊢ iprop((bufP c M w -∗ WP c (k ⟨⟩) Q)
      -∗ WP c (.op (.store M (Rect.unit (s := s) off s.size inb) w Finset.univ hx hm) k) Q) := by
  unfold bufP
  iintro ⟨%f, %hf, Hf⟩ Hk
  iapply (wp_store 𝒱₀ (c : Thread nD τ) none Set.univ (m := M) (r := Rect.unit (s := s) off s.size inb) (Mk := Finset.univ)
    (by rw [View.setOn_univ]; exact View.set_slice_subset _ _)) $$ Hf
  iintro Hf
  iapply Hk
  iexists ((M.access (Rect.unit (s := s) off s.size inb)).write (Elt F) f w Finset.univ)
  isplitr
  · ipureintro
    have h := View.read_write_univ (v := M.access (Rect.unit (s := s) off s.size inb)) f w
    refine Eq.trans (funext fun x => ?_) h
    exact (congrArg (M.view.read (Elt F) _) (emb_full (off := off) (inb := inb) x)).symm
  iexact Hf

/-- A buffer of blocks held, its contents not known. -/
def chAny (c : Dev nD) (M : Memref sig .tc .vmem S16384x256 .bf16) : sProp (MM F) :=
  iprop(∃ f, (M.view.loc (c : Thread nD τ) ↦[M.view.set]{fullShare} f))
theorem chP_any (c : Dev nD) (M : Memref sig .tc .vmem S16384x256 .bf16) (S V) : chP c M S V ⊢ (chAny c M : sProp (MM F)) := by
  unfold chP chAny
  iintro ⟨%f, -, H⟩
  iexists f; iexact H
theorem chAny_P (c : Dev nD) (M : Memref sig .tc .vmem S16384x256 .bf16) (V) : (chAny c M : sProp (MM F)) ⊢ chP c M (fun _ => False) V := by
  unfold chP chAny
  iintro ⟨%f, H⟩
  iexists f
  isplitr; · (ipureintro; exact fun _ h => h.elim)
  iexact H
theorem chP_mono (c : Dev nD) (M : Memref sig .tc .vmem S16384x256 .bf16) {S S' V V'} (h : ∀ j, S' j → S j ∧ V' j = V j) :
    (chP c M S V : sProp (MM F)) ⊢ chP c M S' V' := by
  unfold chP
  iintro ⟨%f, %hf, H⟩
  iexists f
  isplitr; · (ipureintro; exact fun j hj => (hf j (h j hj).1).trans (h j hj).2.symm)
  iexact H

/-! ## The parts of a layer -/

theorem wp_done (c : Dev nD) {Q : PUnit → sProp (MM F)} : Q ⟨⟩ ⊢ WP c (.ret ⟨⟩) Q := by
  unfold WP
  rw [wp_ret]
  iintro H
  imodintro
  iexact H

theorem wp_cpWi (c : Dev nD) {a : Memref sig .tc .vmem S256x512 .bf16} {v u : Vec F S256x512 .bf16}
    {k : Prog (Eff F) PUnit} {Q : PUnit → sProp (MM F)} :
    iprop(bufP c a v ∗ bufP c wiM u) ⊢ iprop(((bufP c a v ∗ bufP c wiM v) -∗ WP c k Q) -∗ WP c (cpWi a k) Q) := by
  unfold cpWi
  iintro ⟨Ha, Hw⟩ Hk
  iapply (wp_ldB c) $$ Ha
  iintro Ha
  iapply (wp_ldB c) $$ Hw
  iintro Hw
  iapply (wp_stB c) $$ Hw
  iintro Hw
  iapply Hk
  rw [shapeCast_self, shapeCast_self]
  isplitl [Ha] <;> iassumption

theorem wp_cpWo (c : Dev nD) {a : Memref sig .tc .vmem S512x256 .bf16} {v u : Vec F S512x256 .bf16}
    {k : Prog (Eff F) PUnit} {Q : PUnit → sProp (MM F)} :
    iprop(bufP c a v ∗ bufP c woM u) ⊢ iprop(((bufP c a v ∗ bufP c woM v) -∗ WP c k Q) -∗ WP c (cpWo a k) Q) := by
  unfold cpWo
  iintro ⟨Ha, Hw⟩ Hk
  iapply (wp_ldB c) $$ Ha
  iintro Ha
  iapply (wp_ldB c) $$ Hw
  iintro Hw
  iapply (wp_stB c) $$ Hw
  iintro Hw
  iapply Hk
  rw [shapeCast_self, shapeCast_self]
  isplitl [Ha] <;> iassumption

/-- What the multiplications work over: all blocks of the layer's input, the products of the first `n`, the weights. -/
def BI' (c : Dev nD) (X : Fin 32 → FVec F S512x256 .bf16) (a : FVec F S256x512 .bf16) (b : FVec F S512x256 .bf16) (n : ℕ) : sProp (MM F) :=
  iprop(chP c xg (fun _ => True) X ∗ chP c pb (fun j => j.val < n) (fun j => mlp (X j) a b) ∗ bufP c wiM a ∗ bufP c woM b)

theorem wp_trip (c : Dev nD) (X : Fin 32 → FVec F S512x256 .bf16) (a : FVec F S256x512 .bf16) (b : FVec F S512x256 .bf16)
    (j : Fin 32) {off hin hpk} (hoff : off = ![512 * j.val, 0]) :
    BI' c X a b j.val ⊢ WP c (trip off hin hpk) fun _ => BI' c X a b (j.val + 1) := by
  unfold BI' trip
  iintro ⟨Hx, Hp, Hwi, Hwo⟩
  iapply (wp_ld c j hoff trivial) $$ Hx
  iintro Hx
  iapply (wp_ldB c) $$ Hwi
  iintro Hwi
  iapply (wp_ldB c) $$ Hwo
  iintro Hwo
  iapply (wp_ld_any c) $$ Hp
  iintro %y Hp
  iapply (wp_st c (S' := fun i => i.val < j.val + 1) (V' := fun i => mlp (X i) a b) j hoff
    (fun _ => by rw [shapeCast_self])
    (fun i hi h => ⟨Nat.lt_of_le_of_ne (Nat.le_of_lt_succ h) fun hc => hi (Fin.ext hc), rfl⟩)) $$ Hp
  iintro Hp
  iapply (wp_done c)
  isplitl [Hx]; · iexact Hx
  isplitl [Hp]; · iexact Hp
  isplitl [Hwi] <;> iassumption

theorem wp_blocks (c : Dev nD) (X : Fin 32 → FVec F S512x256 .bf16) (a : FVec F S256x512 .bf16) (b : FVec F S512x256 .bf16)
    {l : Scf.Loop 32} {hl : l.OK} {off : Fin l.trips → Fin 2 → ℕ} {hin hpk} (ht : l.trips = 32)
    (hoff : ∀ k, off k = ![512 * k.val, 0]) {k : PUnit → Prog (Eff F) PUnit} {Q : PUnit → sProp (MM F)} :
    BI' c X a b 0 ⊢ iprop((BI' c X a b 32 -∗ WP c (k ⟨⟩) Q) -∗ WP c (blocks l hl off hin hpk >>= k) Q) := by
  unfold blocks
  iintro H Hk
  iapply (Scf.wp_for_bind frame (wpE (defs₀ (F := F)) 𝒱₀ (c : Thread nD τ) none) Set.univ l.lb l.ub l.st hl ⟨⟩
    (fun k _ => trip (off k) (hin k) (hpk k)) (fun n _ => BI' c X a b n)
    (fun i _ => wp_trip c X a b ⟨i.val, lt_of_lt_of_eq i.isLt ht⟩ (hoff i))) $$ H
  iintro %acc H
  iapply Hk
  rw [show Scf.trips l.lb l.ub l.st = 32 from ht]
  iexact H

/-! ## The layer -/

/-- What a device holds between layers, the staged blocks apart, when its ring is before message `n`. -/
def Idle (c : Dev nD) (n : ℕ) : sProp (MM F) :=
  iprop(Core c n ∗ Slots c (low n) n ∗ slAny c cm 31 ∗ slAny c stg 31 ∗ chAny c pb ∗ (∃ v, bufP c wiM v) ∗ (∃ v, bufP c woM v))

theorem wp_next (c : Dev nD) {v : FVec F S512x256 .bf16} (V : Fin 32 → FVec F S512x256 .bf16) (hV : V c = v)
    {k : Prog (Eff F) PUnit} {Q : PUnit → sProp (MM F)} :
    chAny c xg ⊢ iprop((chP c xg (fun j => j = c) V -∗ WP c k Q) -∗ WP c (next c v k) Q) := by
  unfold next
  iintro Hx Hk
  ihave Hx := (chAny_P c xg V) $$ Hx
  iapply (wp_ld_any c) $$ Hx
  iintro %y Hx
  iapply (wp_st c (S' := fun j => j = c) (V' := V) c (k0_off1_eq c) (fun _ => by rw [shapeCast_self]; exact hV)
    (fun i hi h => (hi h).elim)) $$ Hx
  iintro Hx
  iapply Hk
  iexact Hx

theorem wp_layer (I : Inp F) (K : GSem nD τ sig → ℕ) (c : Dev nD) {l : ℕ} (hl : l < 3)
    {wi : Memref sig .tc .vmem S256x512 .bf16} {wo : Memref sig .tc .vmem S512x256 .bf16}
    {L : Scf.Loop 32} {hL : L.OK} {off : Fin L.trips → Fin 2 → ℕ} {hin hpk} (ht : L.trips = 32)
    (hoff : ∀ k, off k = ![512 * k.val, 0])
    {k : FVec F S512x256 .f32 → Prog (Eff F) PUnit} {Q : PUnit → sProp (MM F)} :
    iprop(Invs I K ∗ Idle c (62 * l) ∗ chP c xg (fun j => j = c) (Xv I l) ∗ bufP c wi (I.wi l c) ∗ bufP c wo (I.wo l c))
      ⊢ iprop(((Idle c (62 * (l + 1)) ∗ chAny c xg ∗ bufP c wi (I.wi l c) ∗ bufP c wo (I.wo l c)) -∗ WP c (k (Tot (PP I l) c)) Q)
        -∗ WP c (layer c wi wo (blocks L hL off hin hpk) k) Q) := by
  unfold Idle layer agInit
  iintro ⟨#HI, ⟨HC, HS, Hcm, Hstg, Hpb, ⟨%u1, Hu1⟩, ⟨%u2, Hu2⟩⟩, Hx, Hwi, Hwo⟩ Hk
  iapply (wp_ld c (S := fun j => j = c) c (k0_off1_eq c) rfl) $$ Hx
  iintro Hx
  iapply (wp_ldS_any c) $$ Hcm
  iintro %y Hcm
  iapply (wp_stS c) $$ Hcm
  iintro Hcm
  iapply (wp_agLoop I K c hl 31 (Nat.le_refl _)) $$ [HC HS Hcm Hx]
  · isplitr; · iexact HI
    unfold AGI Rest
    rw [if_pos (show 31 - 31 = 0 from rfl)]
    isplitl [HC]; · iexact HC
    isplitl [Hcm]
    · rw [sh_self c (show (32 - (31 - 31)) % 32 = 0 by omega)]
      iexact Hcm
    isplitl [HS]; · iexact HS
    iapply (chP_mono c xg (fun j hj => ⟨Fin.ext (by
      have h1 : c.val < 32 := c.isLt
      have h2 := j.isLt
      omega), rfl⟩)) $$ Hx
  unfold AGI
  iintro ⟨HC, Hcm, HR, Hx⟩
  ihave Hcm := (slP_any c cm _ _) $$ Hcm
  ihave HR := (rest_end c cm (n := 62 * l + 31) (s := 31) (by omega) (by omega) (prv_cm c l (by omega) (by omega))) $$ [HR Hcm]
  · isplitl [HR]; · iexact HR
    iexact Hcm
  icases HR with ⟨HR, Hcm⟩
  iapply (wp_cpWi c) $$ [Hwi Hu1]
  · isplitl [Hwi] <;> iassumption
  iintro ⟨Hwi, Hu1⟩
  iapply (wp_cpWo c) $$ [Hwo Hu2]
  · isplitl [Hwo] <;> iassumption
  iintro ⟨Hwo, Hu2⟩
  ihave Hpb := (chAny_P c pb (PP I l c)) $$ Hpb
  iapply (wp_blocks c (Xv I l) (I.wi l c) (I.wo l c) ht hoff) $$ [Hx Hpb Hu1 Hu2]
  · unfold BI'
    isplitl [Hx]
    · iapply (chP_mono c xg (fun j _ => ⟨by omega, rfl⟩)) $$ Hx
    isplitl [Hpb]
    · iapply (chP_mono c pb (fun j h => absurd h (Nat.not_lt_zero _))) $$ Hpb
    isplitl [Hu1] <;> iassumption
  unfold BI'
  iintro ⟨Hx, Hpb, Hu1, Hu2⟩
  unfold rsInit
  ihave Hpb := (chP_mono c pb (V := fun j => mlp (Xv I l j) (I.wi l c) (I.wo l c)) (S' := fun _ => True) (V' := PP I l c) (fun j _ => ⟨j.isLt, rfl⟩)) $$ Hpb
  iapply (wp_ld c (sh c 31) (by rw [off4_eq, sh_val]) trivial) $$ Hpb
  iintro Hpb
  iapply (wp_ldS_any c) $$ Hstg
  iintro %y Hstg
  iapply (wp_stS c) $$ Hstg
  iintro Hstg
  iapply (wp_rsLoop I K c hl 30 (Nat.le_refl _)) $$ [HC HR Hstg Hpb]
  · isplitr; · iexact HI
    unfold RSI Rest
    rw [if_pos (show 30 - 30 = 0 from rfl)]
    isplitl [HC]; · iexact HC
    isplitl [Hstg]; · iexact Hstg
    isplitl [HR] <;> iassumption
  iintro HR
  iapply (wp_rsEnd I K c hl) $$ [HR]
  · isplitr; · iexact HI
    iexact HR
  iintro ⟨HC, HS, Hstg, Hpb⟩
  iapply Hk
  isplitr [Hx Hwi Hwo]
  · isplitl [HC]; · iexact HC
    isplitl [HS]; · iexact HS
    isplitl [Hcm]; · iexact Hcm
    isplitl [Hstg]; · iexact Hstg
    isplitl [Hpb]; · iapply (chP_any c pb _ _) $$ Hpb
    isplitl [Hu1]; · (iexists _; iexact Hu1)
    iexists _; iexact Hu2
  isplitl [Hx]; · iapply (chP_any c xg _ _) $$ Hx
  isplitl [Hwi] <;> iassumption

theorem trips1 : k0_t1_loop.trips = 32 := by decide +kernel
theorem trips2 : k0_t2_loop.trips = 32 := by decide +kernel
theorem trips3 : k0_t3_loop.trips = 32 := by decide +kernel

end Cert.RingMlp

end
-- ==== Proof.Buffers.lean ====
/-
A buffer of slots, whole and slot by slot; the slots as the messages fill them.
-/
module

public import proofs.«01_k».proof.Proof.Layer

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A buffer of slots held whole. -/
def wholeAny (c : Dev nD) {e : EltTy} (M : Memref sig .tc .vmem S32x512x256 e) : sProp (MM F) :=
  iprop(∃ f, (M.view.loc (c : Thread nD τ) ↦[M.view.set]{fullShare} f))

theorem mem_slotR {s : Fin 32} {x : S32x512x256.Idx} : x ∈ (slotR s).set ↔ (x 0).val = s.val := by
  rw [Rect.mem_set_unit]
  constructor
  · intro h
    have h0 := h 0
    have h1 : s.val ≤ (x 0).val := h0.1
    have h2 : (x 0).val < s.val + 1 := h0.2
    omega
  · intro h a
    fin_cases a
    · show s.val ≤ (x 0).val ∧ (x 0).val < s.val + 1
      omega
    · exact ⟨Nat.zero_le _, (show (x 1).val < 0 + 512 from by have : (x 1).val < 512 := (x 1).isLt; omega)⟩
    · exact ⟨Nat.zero_le _, (show (x 2).val < 0 + 256 from by have : (x 2).val < 256 := (x 2).isLt; omega)⟩

theorem sl_cover {e : EltTy} (M : Memref sig .tc .vmem S32x512x256 e) :
    M.view.set = Finset.univ.biUnion fun s : Fin 32 => (sl M s).view.set := by
  ext i
  rw [Finset.mem_biUnion]
  constructor
  · intro h
    obtain ⟨x, -, rfl⟩ := Finset.mem_map.mp h
    refine ⟨⟨(x 0).val, (x 0).isLt⟩, Finset.mem_univ _, ?_⟩
    rw [sl_set, View.set_slice]
    exact Finset.mem_map.mpr ⟨x, mem_slotR.mpr rfl, rfl⟩
  · rintro ⟨s, -, h⟩
    rw [sl_set] at h
    exact View.set_slice_subset _ _ h

theorem sl_disjoint {e : EltTy} (M : Memref sig .tc .vmem S32x512x256 e) {s t : Fin 32} (h : s ≠ t) :
    Disjoint (sl M s).view.set (sl M t).view.set := by
  rw [sl_set, sl_set]
  refine View.disjoint_slice (Finset.disjoint_left.mpr fun x hx hx' => h (Fin.ext ?_))
  rw [← mem_slotR.mp hx, ← mem_slotR.mp hx']

theorem sl_any (c : Dev nD) {e : EltTy} (M : Memref sig .tc .vmem S32x512x256 e) (f : Buf (Elt F) (M.view.loc (c : Thread nD τ))) (s : Fin 32) :
    (M.view.loc (c : Thread nD τ) ↦[(sl M s).view.set]{fullShare} f) ⊢ (slAny c M s : sProp (MM F)) := by
  unfold slAny
  iintro H
  iexists f
  iexact H

theorem slots_split (c : Dev nD) {e : EltTy} (M : Memref sig .tc .vmem S32x512x256 e) :
    (wholeAny c M : sProp (MM F)) ⊢ bigSep Finset.univ fun s : Fin 32 => slAny c M s := by
  unfold wholeAny
  iintro ⟨%f, H⟩
  have h := pointsTo_biUnion (ℓ := M.view.loc (c : Thread nD τ)) (q := fullShare) (f := f) (Ix := ℕ) (Name := ℕ) (U := UU) (Lvl := ℕ)
    Finset.univ (fun s : Fin 32 => (sl M s).view.set) fun s _ t _ hst => sl_disjoint M hst
  rw [← sl_cover M] at h
  ihave H := ((Entails.of_eq h).trans (bigSep_mono fun s _ => sl_any c M f s)) $$ H
  iexact H

theorem slots_merge (c : Dev nD) {e : EltTy} (M : Memref sig .tc .vmem S32x512x256 e) :
    (bigSep Finset.univ fun s : Fin 32 => slAny c M s) ⊢ (wholeAny c M : sProp (MM F)) := by
  unfold wholeAny slAny
  iintro H
  ihave H := (BI.bigSep_exists_pi Finset.univ (fun (s : Fin 32) (f : Buf (Elt F) (M.view.loc (c : Thread nD τ))) =>
    ((M.view.loc (c : Thread nD τ) ↦[(sl M s).view.set]{fullShare} f) : sProp (MM F)))) $$ H
  icases H with ⟨%fs, H⟩
  ihave H := (pointsTo_biUnion_join (ℓ := M.view.loc (c : Thread nD τ)) (q := fullShare) (Ix := ℕ) (Name := ℕ) (U := UU) (Lvl := ℕ)
    Finset.univ (fun s : Fin 32 => (sl M s).view.set) fs (fs 0) fun s _ t _ hst => sl_disjoint M hst) $$ H
  icases H with ⟨%g, -, H⟩
  iexists g
  rw [sl_cover M]
  iexact H

/-! ## The slots by the messages that fill them -/

/-- The slots of a whole ring of messages, from `b` on, by the two buffers: all but the local ones. -/
theorem slots_msgs (c : Dev nD) {b : ℕ} (hb : b % 62 = 0) :
    (bigSep (Finset.Ico b (b + 62)) fun n => (dstAny c n : sProp (MM F)))
      = iprop((bigSep (Finset.univ.erase (31 : Fin 32)) fun s => slAny c cm s) ∗ bigSep (Finset.univ.erase (31 : Fin 32)) fun s => slAny c stg s) := by
  have hmap : ∀ k, Finset.Ico (b + k) (b + k + 31) = (Finset.univ.erase (31 : Fin 32)).map ⟨fun s => b + k + s.val, fun s t h => by
      have h' : b + k + s.val = b + k + t.val := h
      exact Fin.ext (by omega)⟩ := fun k => by
    ext n
    rw [Finset.mem_Ico, Finset.mem_map]
    constructor
    · intro h
      refine ⟨⟨n - (b + k), by omega⟩, Finset.mem_erase.mpr ⟨fun h' => ?_, Finset.mem_univ _⟩, show b + k + (n - (b + k)) = n by omega⟩
      have h2 : n - (b + k) = 31 := congrArg Fin.val h'
      omega
    · rintro ⟨s, hs, rfl⟩
      have h1 := (Finset.mem_erase.mp hs).1
      have h2 : s.val ≠ 31 := fun h' => h1 (Fin.ext h')
      have h3 := s.isLt
      show b + k ≤ b + k + s.val ∧ b + k + s.val < b + k + 31
      omega
  have hu : Finset.Ico b (b + 62) = Finset.Ico (b + 0) (b + 0 + 31) ∪ Finset.Ico (b + 31) (b + 31 + 31) := by
    ext n; rw [Finset.mem_union, Finset.mem_Ico, Finset.mem_Ico, Finset.mem_Ico]; omega
  have hd : Disjoint (Finset.Ico (b + 0) (b + 0 + 31)) (Finset.Ico (b + 31) (b + 31 + 31)) :=
    Finset.disjoint_left.mpr fun n h1 h2 => by rw [Finset.mem_Ico] at h1 h2; omega
  rw [hu, bigSep_union hd, hmap 0, hmap 31, bigSep_map, bigSep_map]
  have e1 : ∀ s ∈ Finset.univ.erase (31 : Fin 32), (dstAny c (b + 0 + s.val) : sProp (MM F)) = slAny c cm s := fun s hs => by
    have h2 : s.val ≠ 31 := fun h' => (Finset.mem_erase.mp hs).1 (Fin.ext h')
    have h3 := s.isLt
    unfold dstAny
    rw [dif_pos (by omega)]
    congr 1
    exact Fin.ext (show (b + 0 + s.val) % 62 = s.val by omega)
  have e2 : ∀ s ∈ Finset.univ.erase (31 : Fin 32), (dstAny c (b + 31 + s.val) : sProp (MM F)) = slAny c stg s := fun s hs => by
    have h2 : s.val ≠ 31 := fun h' => (Finset.mem_erase.mp hs).1 (Fin.ext h')
    have h3 := s.isLt
    unfold dstAny
    rw [dif_neg (by omega)]
    congr 1
    exact Fin.ext (show (b + 31 + s.val) % 62 - 31 = s.val by omega)
  exact congrArg₂ (fun P Q : sProp (MM F) => iprop(P ∗ Q)) (bigSep_congr e1) (bigSep_congr e2)

theorem bs_erase {T : Type} [DecidableEq T] {s : Finset T} {i : T} (h : i ∈ s) (Φ : T → sProp (MM F)) :
    bigSep s Φ = iprop(Φ i ∗ bigSep (s.erase i) Φ) := bigSep_erase h

theorem slots_deal (c : Dev nD) {b : ℕ} (hb : b % 62 = 0) :
    iprop(wholeAny c cm ∗ wholeAny c stg)
      ⊢ (iprop((bigSep (Finset.Ico b (b + 62)) fun n => dstAny c n) ∗ slAny c cm 31 ∗ slAny c stg 31) : sProp (MM F)) := by
  rw [slots_msgs c hb]
  iintro ⟨H1, H2⟩
  ihave H1 := ((slots_split c cm).trans (Entails.of_eq (bs_erase (Finset.mem_univ (31 : Fin 32)) _))) $$ H1
  ihave H2 := ((slots_split c stg).trans (Entails.of_eq (bs_erase (Finset.mem_univ (31 : Fin 32)) _))) $$ H2
  icases H1 with ⟨H1, H1'⟩
  icases H2 with ⟨H2, H2'⟩
  isplitl [H1' H2']
  · isplitl [H1'] <;> iassumption
  isplitl [H1] <;> iassumption

theorem slots_back (c : Dev nD) {b : ℕ} (hb : b % 62 = 0) :
    iprop((bigSep (Finset.Ico b (b + 62)) fun n => dstAny c n) ∗ slAny c cm 31 ∗ slAny c stg 31)
      ⊢ (iprop(wholeAny c cm ∗ wholeAny c stg) : sProp (MM F)) := by
  rw [slots_msgs c hb]
  iintro ⟨⟨H1, H2⟩, H3, H4⟩
  isplitl [H1 H3]
  · iapply (slots_merge c cm)
    iapply (Entails.of_eq (bs_erase (Finset.mem_univ (31 : Fin 32)) _).symm)
    isplitl [H3] <;> iassumption
  · iapply (slots_merge c stg)
    iapply (Entails.of_eq (bs_erase (Finset.mem_univ (31 : Fin 32)) _).symm)
    isplitl [H4] <;> iassumption

end Cert.RingMlp

end
-- ==== Proof.Body.lean ====
/-
The body on one device: the first handshake, three layers, the last handshake, and every cell closed.
-/
module

public import proofs.«01_k».proof.Proof.Buffers

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What a device starts and ends with -/

/-- The duties of the two handshakes it pays. -/
def BarToks (c : Dev nD) : sProp (MM F) :=
  iprop(dutyTok ER (bcell (sh c 31)) 0 true ∗ dutyTok ER (bcell (sh c 1)) 0 false
    ∗ dutyTok ER (b2cell (sh c 31)) 0 true ∗ dutyTok ER (b2cell (sh c 1)) 0 false)

/-- Where its own cells stand: all at their first round. -/
def AtStart (c : Dev nD) : sProp (MM F) :=
  iprop(atPos ER (bcell c) 0 ∅ 0 ∗ atPos ER (b2cell c) 0 ∅ 0 ∗ atPos ER (scell c) 0 ∅ 0 ∗ bigSep (Finset.range 62) fun σ => atPos ER (rcell c σ) 0 ∅ 0)

/-- The credit its waits spend, but for the messages'. -/
def BarCreds (c : Dev nD) : sProp (MM F) :=
  iprop(cred (tallyAt (bcell c) 0 2) ∗ cred (tallyAt (b2cell c) 0 2))

/-- The kernel's own buffers. -/
def Scr (c : Dev nD) : sProp (MM F) :=
  iprop(chAny c xg ∗ chAny c pb ∗ wholeAny c stg ∗ wholeAny c cm ∗ (∃ v, bufP c wiM v) ∗ (∃ v, bufP c woM v))

/-- The staged arguments. -/
def Args (I : Inp F) (c : Dev nD) : sProp (MM F) :=
  iprop(bufP c (Memref.whole cc0_stg0_0) (I.x c) ∗ bufP c (Memref.whole cc0_stg1_0) (I.wi 0 c) ∗ bufP c (Memref.whole cc0_stg2_0) (I.wo 0 c)
    ∗ bufP c (Memref.whole cc0_stg3_0) (I.wi 1 c) ∗ bufP c (Memref.whole cc0_stg4_0) (I.wo 1 c)
    ∗ bufP c (Memref.whole cc0_stg5_0) (I.wi 2 c) ∗ bufP c (Memref.whole cc0_stg6_0) (I.wo 2 c))

/-- Its counters, all back at zero. -/
def Zeros (c : Dev nD) : sProp (MM F) :=
  iprop(semVal (bcell c) 0 ∗ semVal (b2cell c) 0 ∗ semVal (scell c) 0 ∗ bigSep (Finset.range 62) fun σ => semVal (rcell c σ) 0)

/-! ## The handshakes -/

theorem fr_intro (I : Inp F) (K : GSem nD τ sig → ℕ) (c : Dev nD) :
    iprop(Invs I K ∗ bigSep (Finset.Ico 0 62) fun n => dstAny c n) ⊢ (Fr (sh c 31) 0 : sProp (MM F)) := by
  have e : sh (sh c 31) 1 = c := by rw [sh_sh]; exact sh_self c (by omega)
  have h : ∀ m ∈ Finset.Ico 0 62, iprop(Invs I K ∗ dstAny c m) ⊢ (Free (sh (sh c 31) 1) m : sProp (MM F)) := fun m hm => by
    rw [e]
    unfold Free
    rw [show m / 62 = 0 from Nat.div_eq_of_lt (Finset.mem_Ico.mp hm).2]
    iintro ⟨#HI, H⟩
    isplitl [H]; · iexact H
    iapply (reached_at I K c (by rw [key_recv]; omega))
    iexact HI
  unfold Fr
  iintro ⟨#HI, H⟩
  ihave HB := (BI.bigSep_of_persistent (Finset.Ico 0 62) (Invs I K)) $$ HI
  iapply ((Entails.of_eq (BI.bigSep_sep' (Finset.Ico 0 62) (fun _ => Invs I K) (fun n => dstAny c n)).symm).trans (bigSep_mono h))
  isplitr [H]; · iexact HB
  iexact H

theorem wp_hand1 (I : Inp F) (K : GSem nD τ sig → ℕ) (c : Dev nD) {k : Prog (Eff F) PUnit} {Q : PUnit → sProp (MM F)} :
    iprop(Invs I K ∗ (∃ W, owes (c : Thread nD τ) (O₀ c) W) ∗ dutyTok ER (bcell (sh c 31)) 0 true ∗ dutyTok ER (bcell (sh c 1)) 0 false
        ∗ cred (tallyAt (bcell c) 0 2) ∗ atPos ER (bcell c) 0 ∅ 0 ∗ bigSep (Finset.Ico 0 62) fun n => dstAny c n)
      ⊢ iprop((((∃ W, owes (c : Thread nD τ) (debt c 0) W) ∗ atPos ER (bcell c) 1 ∅ 0 ∗ Fr c 0) -∗ WP c k Q)
        -∗ WP c (.op (.semSignal (⟨k0_dev1 c, k0_dev1_lt c⟩, Proc.tc) barSem (1#32 : BitVec 32).toInt) fun _ =>
          .op (.semSignal (⟨k0_dev2 c, k0_dev2_lt c⟩, Proc.tc) barSem (1#32 : BitVec 32).toInt) fun _ =>
          .op (.semWait barSem (2#32 : BitVec 32).toInt) fun _ => k) Q) := by
  rw [dev1_eq c, dev2_eq c]
  iintro ⟨#HI, ⟨%W, HO⟩, Ht1, Ht2, Hcr, Hat, Hd⟩ Hk
  iapply (Rounds.wp_signal 𝒱₀ ER (Rd I) (c : Thread nD τ) none (dst := (sh c 31 : Thread nD τ)) (κ := K (bcell (sh c 31)))
      (d := true) (by rw [duties_bar]; exact Finset.mem_univ _) ((amount_bar I (sh c 31) true).trans (by decide)) 0 (O₁ c) rfl)
    $$ [HO Ht1 Hd]
  · isplitr; · iapply (inv_bar I K (sh c 31)); iexact HI
    isplitl [HO]; · iexact HO
    isplitl [Ht1]; · iexact Ht1
    isplitl [Hd]
    · rw [payload_bar_true]
      iapply (fr_intro I K c)
      isplitr; · iexact HI
      iexact Hd
    iapply (reached_at I K (sh c 31) (by rw [key_bar]; omega)); iexact HI
  iintro HO
  unfold O₁
  iapply (Rounds.wp_signal 𝒱₀ ER (Rd I) (c : Thread nD τ) none (dst := (sh c 1 : Thread nD τ)) (κ := K (bcell (sh c 1)))
      (d := false) (by rw [duties_bar]; exact Finset.mem_univ _) ((amount_bar I (sh c 1) false).trans (by decide)) 0 (debt c 0) rfl)
    $$ [HO Ht2]
  · isplitr; · iapply (inv_bar I K (sh c 1)); iexact HI
    isplitl [HO]; · iexact HO
    isplitl [Ht2]; · iexact Ht2
    isplitr; · rw [payload_bar_false]; iempintro
    iapply (reached_at I K (sh c 1) (by rw [key_bar]; omega)); iexact HI
  iintro HO
  iapply (Rounds.wp_wait_rest_token 𝒱₀ ER (Rd I) (c : Thread nD τ) none (κ := K (bcell c))
      (wpE_semWait_eq 𝒱₀ (c : Thread nD τ) none Set.univ) (Set.mem_univ _) 0 (O := debt c 0) (W := W) (R := 0) (m := 0) (T := ∅)
      (by rw [expect_bar]; decide)) $$ [Hcr HO Hat]
  · isplitr; · iapply (inv_bar I K c); iexact HI
    isplitl [Hcr]; · iexact Hcr
    isplitl [HO]; · iexact HO
    isplitr; · iapply (wait_bar I K c); iexact HI
    iexact Hat
  iintro ⟨HO, Hat, -, Hpay⟩
  ihave Hp := (Entails.of_eq (rest_bar I c)) $$ Hpay
  icases Hp with ⟨-, HF⟩
  iapply Hk
  isplitl [HO]; · iexists _; iexact HO
  isplitl [Hat]; · iexact Hat
  iexact HF

theorem wp_hand2 (I : Inp F) (K : GSem nD τ sig → ℕ) (c : Dev nD) {k : PUnit → Prog (Eff F) PUnit} {Q : PUnit → sProp (MM F)} :
    iprop(Invs I K ∗ (∃ W, owes (c : Thread nD τ) (debt c 186) W) ∗ dutyTok ER (b2cell (sh c 31)) 0 true ∗ dutyTok ER (b2cell (sh c 1)) 0 false
        ∗ cred (tallyAt (b2cell c) 0 2) ∗ atPos ER (b2cell c) 0 ∅ 0)
      ⊢ iprop((((∃ W, owes (c : Thread nD τ) 0 W) ∗ atPos ER (b2cell c) 1 ∅ 0) -∗ WP c (k ⟨⟩) Q)
        -∗ WP c (.op (.semSignal (⟨k0_dev189 c, k0_dev189_lt c⟩, Proc.tc) bar2Sem (1#32 : BitVec 32).toInt) fun _ =>
          .op (.semSignal (⟨k0_dev190 c, k0_dev190_lt c⟩, Proc.tc) bar2Sem (1#32 : BitVec 32).toInt) fun _ =>
          .op (.semWait bar2Sem (2#32 : BitVec 32).toInt) k) Q) := by
  rw [dev189_eq c, dev190_eq c]
  iintro ⟨#HI, ⟨%W, HO⟩, Ht1, Ht2, Hcr, Hat⟩ Hk
  iapply (Rounds.wp_signal 𝒱₀ ER (Rd I) (c : Thread nD τ) none (dst := (sh c 31 : Thread nD τ)) (κ := K (b2cell (sh c 31)))
      (d := true) (by rw [duties_bar2]; exact Finset.mem_univ _) ((amount_bar2 I (sh c 31) true).trans (by decide)) 0
      (tallyAt (b2cell (sh c 1)) 0 1) (debt_end c))
    $$ [HO Ht1]
  · isplitr; · iapply (inv_bar2 I K (sh c 31)); iexact HI
    isplitl [HO]; · iexact HO
    isplitl [Ht1]; · iexact Ht1
    isplitr; · rw [payload_bar2]; iempintro
    iapply (reached_at I K (sh c 31) (by rw [key_bar2]; omega)); iexact HI
  iintro HO
  iapply (Rounds.wp_signal 𝒱₀ ER (Rd I) (c : Thread nD τ) none (dst := (sh c 1 : Thread nD τ)) (κ := K (b2cell (sh c 1)))
      (d := false) (by rw [duties_bar2]; exact Finset.mem_univ _) ((amount_bar2 I (sh c 1) false).trans (by decide)) 0 0 (zero_add _).symm)
    $$ [HO Ht2]
  · isplitr; · iapply (inv_bar2 I K (sh c 1)); iexact HI
    isplitl [HO]; · iexact HO
    isplitl [Ht2]; · iexact Ht2
    isplitr; · rw [payload_bar2]; iempintro
    iapply (reached_at I K (sh c 1) (by rw [key_bar2]; omega)); iexact HI
  iintro HO
  iapply (Rounds.wp_wait_rest_token 𝒱₀ ER (Rd I) (c : Thread nD τ) none (κ := K (b2cell c))
      (wpE_semWait_eq 𝒱₀ (c : Thread nD τ) none Set.univ) (Set.mem_univ _) 0 (O := 0) (W := W) (R := 0) (m := 0) (T := ∅)
      (by rw [expect_bar2]; decide)) $$ [Hcr HO Hat]
  · isplitr; · iapply (inv_bar2 I K c); iexact HI
    isplitl [Hcr]; · iexact Hcr
    isplitl [HO]; · iexact HO
    isplitr; · rw [MayWait_zero]; iempintro
    iexact Hat
  iintro ⟨HO, Hat, -, -⟩
  iapply Hk
  isplitl [HO]; · iexists _; iexact HO
  iexact Hat

/-! ## The cells closed -/

theorem pos_end (c : Dev nD) : (Pos c 186 : sProp (MM F)) = bigSep (Finset.range 62) fun σ => atPos ER (rcell c σ) 3 ∅ 0 := by
  unfold Pos
  exact bigSep_congr fun σ hσ => by
    have := Finset.mem_range.mp hσ
    rw [show (186 + 61 - σ) / 62 = 3 by omega]
theorem pos_start (c : Dev nD) : (Pos c 0 : sProp (MM F)) = bigSep (Finset.range 62) fun σ => atPos ER (rcell c σ) 0 ∅ 0 := by
  unfold Pos
  exact bigSep_congr fun σ hσ => by
    have := Finset.mem_range.mp hσ
    rw [show (0 + 61 - σ) / 62 = 0 by omega]

theorem close_recv (I : Inp F) (K : GSem nD τ sig → ℕ) (c : Dev nD) (σ : ℕ) :
    iprop(Invs I K ∗ atPos ER (rcell c σ) 3 ∅ 0) ⊢ (|={Set.univ}=> semVal (rcell c σ) 0 : sProp (MM F)) := by
  iintro ⟨#HI, H⟩
  imod (Rounds.cell_close ER (Rd I) (Set.mem_univ (K (rcell c σ))) (fun h => h) (R := 3) (later_recv I c σ)) $$ [H] with Hz
  · isplitr; · iapply (inv_recv I K c σ); iexact HI
    iexact H
  imodintro
  iexact Hz

theorem close_recvs (I : Inp F) (K : GSem nD τ sig → ℕ) (c : Dev nD) :
    iprop(Invs I K ∗ Pos c 186) ⊢ (|={Set.univ}=> bigSep (Finset.range 62) fun σ => semVal (rcell c σ) 0 : sProp (MM F)) := by
  rw [pos_end]
  iintro ⟨#HI, H⟩
  ihave HB := (BI.bigSep_of_persistent (Finset.range 62) (Invs I K)) $$ HI
  iapply (((Entails.of_eq (BI.bigSep_sep' (Finset.range 62) (fun _ => Invs I K) (fun σ => atPos ER (rcell c σ) 3 ∅ 0)).symm).trans
    (bigSep_mono fun σ _ => close_recv I K c σ)).trans (bigSep_fupd _ _))
  isplitr [H]; · iexact HB
  iexact H

theorem close_all (I : Inp F) (K : GSem nD τ sig → ℕ) (c : Dev nD) :
    iprop(Invs I K ∗ atPos ER (bcell c) 1 ∅ 0 ∗ atPos ER (b2cell c) 1 ∅ 0 ∗ atPos ER (scell c) 186 ∅ 0 ∗ Pos c 186)
      ⊢ (|={Set.univ}=> Zeros c : sProp (MM F)) := by
  unfold Zeros
  iintro ⟨#HI, H1, H2, H3, H4⟩
  imod (Rounds.cell_close ER (Rd I) (Set.mem_univ (K (bcell c))) (fun h => h) (R := 1) (later_bar I c)) $$ [H1] with Hz1
  · isplitr; · iapply (inv_bar I K c); iexact HI
    iexact H1
  imod (Rounds.cell_close ER (Rd I) (Set.mem_univ (K (b2cell c))) (fun h => h) (R := 1) (later_bar2 I c)) $$ [H2] with Hz2
  · isplitr; · iapply (inv_bar2 I K c); iexact HI
    iexact H2
  imod (Rounds.cell_close ER (Rd I) (Set.mem_univ (K (scell c))) (fun h => h) (R := 186) (later_send I c)) $$ [H3] with Hz3
  · isplitr; · iapply (inv_send I K c); iexact HI
    iexact H3
  imod (close_recvs I K c) $$ [H4] with Hz4
  · isplitr; · iexact HI
    iexact H4
  imodintro
  isplitl [Hz1]; · iexact Hz1
  isplitl [Hz2]; · iexact Hz2
  isplitl [Hz3] <;> iassumption

/-! ## The state between layers -/

theorem idle_start (I : Inp F) (K : GSem nD τ sig → ℕ) (c : Dev nD) :
    iprop(Invs I K ∗ Tok c 0 ∗ (∃ W, owes (c : Thread nD τ) (debt c 0) W) ∗ Fr c 0 ∗ atPos ER (scell c) 0 ∅ 0
        ∗ (bigSep (Finset.range 62) fun σ => atPos ER (rcell c σ) 0 ∅ 0) ∗ slAny c cm 31 ∗ slAny c stg 31 ∗ chAny c pb
        ∗ (∃ v, bufP c wiM v) ∗ (∃ v, bufP c woM v))
      ⊢ (Idle c (62 * 0) : sProp (MM F)) := by
  unfold Idle Core Tr Slots low
  rw [Nat.mul_zero, ← pos_start c, show Finset.Ico (max 0 62) (min (0 + 31) 186) = ∅ from Finset.Ico_eq_empty (by decide),
    show Finset.Ico (min (0 - 31) 124) 0 = ∅ from Finset.Ico_eq_empty (by decide), BI.bigSep_empty, BI.bigSep_empty]
  iintro ⟨#HI, Ht, HO, HF, HS, HP, H1, H2, H3, H4, H5⟩
  isplitl [Ht HO HF HS HP]
  · isplitl [Ht]; · iexact Ht
    isplitl [HP]; · iexact HP
    isplitl [HS]
    · isplitl [HS]; · iexact HS
      iapply (reached_at I K c (by rw [key_send]; omega)); iexact HI
    isplitl [HO]; · iexact HO
    isplitl [HF]; · iexact HF
    iempintro
  isplitr; · iempintro
  isplitl [H1]; · iexact H1
  isplitl [H2]; · iexact H2
  isplitl [H3]; · iexact H3
  isplitl [H4] <;> iassumption

theorem free_any (c : Dev nD) (n : ℕ) : (Free c (n + 62) : sProp (MM F)) ⊢ dstAny c n := by
  have e : (dstAny c (n + 62) : sProp (MM F)) = dstAny c n := by
    unfold dstAny
    have h : (n + 62) % 62 = n % 62 := by omega
    simp only [h]
  unfold Free
  rw [e]
  iintro ⟨H, -⟩
  iexact H

theorem slots_all (c : Dev nD) :
    (Slots c (low 186) 186 : sProp (MM F)) ⊢ bigSep (Finset.Ico 124 (124 + 62)) fun n => dstAny c n := by
  unfold Slots low
  exact bigSep_mono fun n _ => free_any c n

theorem idle_end (c : Dev nD) :
    (Idle c (62 * 3) : sProp (MM F)) ⊢ iprop((∃ W, owes (c : Thread nD τ) (debt c 186) W) ∗ atPos ER (scell c) 186 ∅ 0 ∗ Pos c 186
      ∗ wholeAny c cm ∗ wholeAny c stg ∗ chAny c pb ∗ (∃ v, bufP c wiM v) ∗ (∃ v, bufP c woM v)) := by
  unfold Idle Core
  iintro ⟨⟨-, HP, ⟨HS, -⟩, HO, -, -⟩, Hsl, H1, H2, H3, H4, H5⟩
  ihave Hd := (slots_all c) $$ Hsl
  ihave Hb := (slots_back c (b := 124) (by decide)) $$ [Hd H1 H2]
  · isplitl [Hd]; · iexact Hd
    isplitl [H1] <;> iassumption
  icases Hb with ⟨Hcm, Hstg⟩
  isplitl [HO]; · iexact HO
  isplitl [HS]; · iexact HS
  isplitl [HP]; · iexact HP
  isplitl [Hcm]; · iexact Hcm
  isplitl [Hstg]; · iexact Hstg
  isplitl [H3]; · iexact H3
  isplitl [H4] <;> iassumption

/-! ## The body -/

theorem wp_body (I : Inp F) (K : GSem nD τ sig → ℕ) (c : Dev nD) {Q : PUnit → sProp (MM F)} :
    iprop(Invs I K ∗ (BarToks c ∗ AtStart c ∗ BarCreds c ∗ Tok c 0) ∗ (∃ W, owes (c : Thread nD τ) (O₀ c) W) ∗ Scr c ∗ Args I c
        ∗ (∃ v, bufP c (Memref.whole cc0_stg7_0) v))
      ⊢ iprop(((Zeros c ∗ (∃ W, owes (c : Thread nD τ) 0 W) ∗ Scr c ∗ Args I c ∗ bufP c (Memref.whole cc0_stg7_0) (Tot (PP I 2) c)) -∗ Q ⟨⟩)
        -∗ WP c (body (F := F)) Q) := by
  unfold body BarToks AtStart BarCreds Scr Args
  iintro ⟨#HI, ⟨⟨Ht1, Ht2, Ht3, Ht4⟩, ⟨Ha1, Ha2, Ha3, Ha4⟩, ⟨Hc1, Hc2⟩, HT⟩, HO, ⟨Hxg, Hpb, Hstg, Hcm, Hwi, Hwo⟩, ⟨Hx, Hi0, Ho0, Hi1, Ho1, Hi2, Ho2⟩, ⟨%v7, H7⟩⟩ Hk
  unfold WP
  rw [wp_deviceId]
  ihave Hd := (slots_deal c (b := 0) (by decide)) $$ [Hcm Hstg]
  · isplitl [Hcm] <;> iassumption
  icases Hd with ⟨Hd, Hcm, Hstg⟩
  iapply (wp_hand1 I K c) $$ [HO Ht1 Ht2 Hc1 Ha1 Hd]
  · isplitr; · iexact HI
    isplitl [HO]; · iexact HO
    isplitl [Ht1]; · iexact Ht1
    isplitl [Ht2]; · iexact Ht2
    isplitl [Hc1]; · iexact Hc1
    isplitl [Ha1]; · iexact Ha1
    iexact Hd
  iintro ⟨HO, Ha1, HF⟩
  ihave Hid := (idle_start I K c) $$ [HT HO HF Ha3 Ha4 Hcm Hstg Hpb Hwi Hwo]
  · isplitr; · iexact HI
    isplitl [HT]; · iexact HT
    isplitl [HO]; · iexact HO
    isplitl [HF]; · iexact HF
    isplitl [Ha3]; · iexact Ha3
    isplitl [Ha4]; · iexact Ha4
    isplitl [Hcm]; · iexact Hcm
    isplitl [Hstg]; · iexact Hstg
    isplitl [Hpb]; · iexact Hpb
    isplitl [Hwi] <;> iassumption
  iapply (wp_ldB c) $$ Hx
  iintro Hx
  iapply (wp_next c (Xv I 0) (by rw [shapeCast_self]; rfl)) $$ Hxg
  iintro Hxg
  iapply (wp_layer I K c (l := 0) (by decide) trips1 k0_off3_eq) $$ [Hid Hxg Hi0 Ho0]
  · isplitr; · iexact HI
    isplitl [Hid]; · iexact Hid
    isplitl [Hxg]; · iexact Hxg
    isplitl [Hi0] <;> iassumption
  iintro ⟨Hid, Hxg, Hi0, Ho0⟩
  iapply (wp_next c (Xv I 1) rfl) $$ Hxg
  iintro Hxg
  iapply (wp_layer I K c (l := 1) (by decide) trips2 k0_off5_eq) $$ [Hid Hxg Hi1 Ho1]
  · isplitr; · iexact HI
    isplitl [Hid]; · iexact Hid
    isplitl [Hxg]; · iexact Hxg
    isplitl [Hi1] <;> iassumption
  iintro ⟨Hid, Hxg, Hi1, Ho1⟩
  iapply (wp_next c (Xv I 2) rfl) $$ Hxg
  iintro Hxg
  iapply (wp_layer I K c (l := 2) (by decide) trips3 k0_off6_eq) $$ [Hid Hxg Hi2 Ho2]
  · isplitr; · iexact HI
    isplitl [Hid]; · iexact Hid
    isplitl [Hxg]; · iexact Hxg
    isplitl [Hi2] <;> iassumption
  iintro ⟨Hid, Hxg, Hi2, Ho2⟩
  iapply (wp_ldB c) $$ H7
  iintro H7
  iapply (wp_stB c) $$ H7
  iintro H7
  ihave He := (idle_end c) $$ Hid
  icases He with ⟨HO, Ha3, Ha4, Hcm, Hstg, Hpb, Hwi, Hwo⟩
  iapply (wp_hand2 I K c) $$ [HO Ht3 Ht4 Hc2 Ha2]
  · isplitr; · iexact HI
    isplitl [HO]; · iexact HO
    isplitl [Ht3]; · iexact Ht3
    isplitl [Ht4]; · iexact Ht4
    isplitl [Hc2] <;> iassumption
  iintro ⟨HO, Ha2⟩
  unfold WP
  rw [wp_ret]
  imod (close_all I K c) $$ [Ha1 Ha2 Ha3 Ha4] with Hz
  · isplitr; · iexact HI
    isplitl [Ha1]; · iexact Ha1
    isplitl [Ha2]; · iexact Ha2
    isplitl [Ha3] <;> iassumption
  imodintro
  iapply Hk
  isplitl [Hz]; · iexact Hz
  isplitl [HO]; · iexact HO
  isplitl [Hxg Hpb Hstg Hcm Hwi Hwo]
  · isplitl [Hxg]; · iexact Hxg
    isplitl [Hpb]; · iexact Hpb
    isplitl [Hstg]; · iexact Hstg
    isplitl [Hcm]; · iexact Hcm
    isplitl [Hwi] <;> iassumption
  isplitr [H7]
  · isplitl [Hx]; · iexact Hx
    isplitl [Hi0]; · iexact Hi0
    isplitl [Ho0]; · iexact Ho0
    isplitl [Hi1]; · iexact Hi1
    isplitl [Ho1]; · iexact Ho1
    isplitl [Hi2] <;> iassumption
  iexact H7

end Cert.RingMlp

end
-- ==== Proof.ProgEq.lean ====
/-
The printed body is the structured program: the two agree operation for operation. A counted loop is where the printed
body's parts are joined by binds that do not compute, so the equality is cut at the three loops and each piece between
two of them is checked by computing.
-/
module

public import proofs.«01_k».proof.Proof.Prog

@[expose] public section

noncomputable section

namespace Cert.RingMlp

open Cert.KernelIdeal Cert.KernelIdeal.Gen
open Idealize.ShloMosaic
open Idealize.ShloMosaic.TcCoe
open Idealize.SL.Sem

variable {F : FTy → Type} [FloatOps F]

set_option maxRecDepth 100000
set_option maxHeartbeats 0

/-- Three nested continuations of one program, composed. -/
theorem glue {E : Type → Type} {α β γ : Type} (l : Prog E PUnit) (k₁ : PUnit → Prog E α) (k₂ : α → Prog E β)
    (k₃ : β → Prog E γ) (R : Prog E γ) (h : (k₁ ⟨⟩ >>= k₂) >>= k₃ = R) :
    ((l >>= k₁) >>= k₂) >>= k₃ = l >>= fun _ => R := by
  subst h
  rw [Prog.bind_assoc, Prog.bind_assoc]
  exact congrArg (l >>= ·) (funext fun a => (Prog.bind_assoc _ _ _).symm)

/-- The body up to its first loop. -/
def pre1 (K : Dev nD → Prog (Eff F) PUnit) : Prog (Eff F) PUnit :=
  .op .deviceId fun (d : Dev nD) =>
  .op (.semSignal (⟨k0_dev1 d, k0_dev1_lt d⟩, Proc.tc) barSem (1#32 : BitVec 32).toInt) fun _ =>
  .op (.semSignal (⟨k0_dev2 d, k0_dev2_lt d⟩, Proc.tc) barSem (1#32 : BitVec 32).toInt) fun _ =>
  .op (.semWait barSem (2#32 : BitVec 32).toInt) fun _ =>
  .op (.load (Memref.whole cc0_stg0_0 : Memref sig .tc .vmem S512x256 .bf16)
    (Rect.unit (s := S512x256) ![0, 0] S512x256.size inb_S512x256_S512x256_0_0).toLoadRect
    (View.loadsAt_vmem h_S512x256)) fun (v : Vec F S512x256 .bf16) =>
  next d (shapeCast S512x256 v shapeCasts_S512x256_S512x256) <|
  agInit d <| agLoop d 31 (Nat.le_refl _) <| cpWi (Memref.whole cc0_stg1_0) <| cpWo (Memref.whole cc0_stg2_0) <| (K d)

/-- From the first loop to the second. -/
def pre2 (d : Dev nD) (K : Prog (Eff F) PUnit) : Prog (Eff F) PUnit :=
  rsInit d <| rsLoop d 30 (Nat.le_refl _) <| rsXfer (rgt d) 30 <| rsLast d <| fun v =>
  next d (truncf .bf16 v bitsLt_bf16_f32) <|
  agInit d <| agLoop d 31 (Nat.le_refl _) <| cpWi (Memref.whole cc0_stg3_0) <| cpWo (Memref.whole cc0_stg4_0) <| K

/-- A program is `pre` of a loop and a rest, when it is `pre` of that loop and three nested continuations whose
composition is the rest, at every device. -/
theorem cut {D α β : Type} (bl : Prog (Eff F) PUnit) (pre : (D → Prog (Eff F) PUnit) → Prog (Eff F) PUnit)
    (k₁ : D → PUnit → Prog (Eff F) α) (k₂ : D → α → Prog (Eff F) β) (k₃ : D → β → Prog (Eff F) PUnit)
    {p : Prog (Eff F) PUnit} {R : D → Prog (Eff F) PUnit}
    (h : p = pre fun d => ((bl >>= k₁ d) >>= k₂ d) >>= k₃ d) (hR : ∀ d, (k₁ d ⟨⟩ >>= k₂ d) >>= k₃ d = R d) :
    p = pre fun d => bl >>= fun _ => R d := by
  rw [h]
  exact congrArg pre (funext fun d => glue _ _ _ _ _ (hR d))

/-- The same where the device is fixed. -/
theorem cut₀ {α β : Type} (bl : Prog (Eff F) PUnit) (pre : Prog (Eff F) PUnit → Prog (Eff F) PUnit)
    (k₁ : PUnit → Prog (Eff F) α) (k₂ : α → Prog (Eff F) β) (k₃ : β → Prog (Eff F) PUnit)
    {p : Prog (Eff F) PUnit} {R : Prog (Eff F) PUnit}
    (h : p = pre (((bl >>= k₁) >>= k₂) >>= k₃)) (hR : (k₁ ⟨⟩ >>= k₂) >>= k₃ = R) :
    p = pre (bl >>= fun _ => R) := by
  rw [h]
  exact congrArg pre (glue _ _ _ _ _ hR)

/-- From the second loop to the third. -/
def pre3 (d : Dev nD) (K : Prog (Eff F) PUnit) : Prog (Eff F) PUnit :=
  rsInit d <| rsLoop d 30 (Nat.le_refl _) <| rsXfer (rgt d) 30 <| rsLast d <| fun v =>
  next d (truncf .bf16 v bitsLt_bf16_f32) <|
  agInit d <| agLoop d 31 (Nat.le_refl _) <| cpWi (Memref.whole cc0_stg5_0) <| cpWo (Memref.whole cc0_stg6_0) <| K

theorem printed_eq : printed (F := F) = body := by
  refine cut (α := PUnit) (β := (_ : Dev nD) ×' (_ : BitVec 32) ×' (_ : BitVec 32) ×' BitVec 32)
    (blocks k0_t1_loop k0_t1_ok k0_off3 k0_off3_inb k0_off3_packedbf16) pre1 ?k1 ?k2 ?k3 ?h ?hR
  case h => rfl
  case hR =>
    intro d
    refine cut₀ (α := (_ : BitVec 32) ×' (_ : BitVec 32) ×' BitVec 32) (β := (_ : FVec F S512x256 .bf16) ×' BitVec 32)
      (blocks k0_t2_loop k0_t2_ok k0_off5 k0_off5_inb k0_off5_packedbf16) (pre2 d) ?l1 ?l2 ?l3 ?h' ?hR'
    case h' => rfl
    case hR' =>
      refine cut₀ (α := (_ : FVec F S512x256 .f32) ×' Vec F S1x512x256 .f32) (β := PUnit)
        (blocks k0_t3_loop k0_t3_ok k0_off6 k0_off6_inb k0_off6_packedbf16) (pre3 d) ?m1 ?m2 ?m3 ?h'' ?hR''
      case h'' => rfl
      case hR'' => rfl

end Cert.RingMlp

end
-- ==== Proof.Launch.lean ====
/-
The launch: the cells funded and allocated for all devices at once, their tokens dealt around the ring, the run of @main.
-/
module

public import proofs.«01_k».proof.Proof.Body
public import proofs.«01_k».proof.Proof.ProgEq
public import Idealize.ShloMosaic.Lib.Pipeline.CollectiveSegs

@[expose] public section

noncomputable section

namespace Cert.RingMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A device's cells one by one -/

theorem bs_image {A B : Type} [DecidableEq A] [DecidableEq B] {s : Finset A} {f : A → B} (h : ∀ x ∈ s, ∀ y ∈ s, f x = f y → x = y)
    (Φ : B → sProp (MM F)) : bigSep (s.image f) Φ = bigSep s fun a => Φ (f a) := Finset.fold_image h
theorem bs_union {A : Type} [DecidableEq A] {s t : Finset A} (h : Disjoint s t) (Φ : A → sProp (MM F)) :
    bigSep (s ∪ t) Φ = iprop(bigSep s Φ ∗ bigSep t Φ) := bigSep_union h

theorem bs_prod {A B : Type} [DecidableEq A] [DecidableEq B] (s : Finset A) (t : Finset B) (Φ : A × B → sProp (MM F)) :
    bigSep (s ×ˢ t) Φ = bigSep s fun a => bigSep t fun b => Φ (a, b) := by
  induction s using Finset.induction_on with
  | empty => rw [Finset.empty_product]; rfl
  | insert a s ha ih =>
    rw [Finset.insert_eq, Finset.union_product, bs_union, ih, ← Finset.insert_eq, bs_insert ha, Finset.singleton_product, bigSep_map]
    · rfl
    · exact Finset.disjoint_product.mpr (.inl (Finset.disjoint_singleton_left.mpr ha))

theorem rsem_inj : ∀ x ∈ Finset.range 62, ∀ y ∈ Finset.range 62, (SemLoc.dma (rsem x) : SemLoc sig) = .dma (rsem y) → x = y :=
  fun x hx y hy h => by
    have := congrArg key h
    rw [key_recv, key_recv] at this
    have := Finset.mem_range.mp hx; have := Finset.mem_range.mp hy
    omega

theorem sem_key {sm : SemLoc sig} {g : SemLoc sig} (h : key sm = key g) : sm = g :=
  key_inj h (by
    rcases sm with s | s
    · have : s.val < 2 := s.isLt
      show s.val < 81; omega
    · have : s.val < 71 := s.isLt
      show 10 + s.val < 81; omega)

theorem key_lt (sm : SemLoc sig) : key sm < 2 ∨ (10 ≤ key sm ∧ key sm < 81) := by
  rcases sm with s | s
  · exact .inl s.isLt
  · have : s.val < 71 := s.isLt
    exact .inr ⟨Nat.le_add_right _ _, show 10 + s.val < 81 by omega⟩

theorem ringSems_eq : ringSems = insert (SemLoc.reg barSem) (insert (SemLoc.reg bar2Sem) (insert (SemLoc.dma sendSem)
    ((Finset.range 62).image fun σ => (SemLoc.dma (rsem σ) : SemLoc sig)))) := by
  ext sm
  unfold ringSems
  simp only [Finset.mem_filter, Finset.mem_insert, Finset.mem_image, Finset.mem_univ, true_and]
  constructor
  · intro h
    have hk := key_lt sm
    by_cases h0 : key sm = 0
    · exact .inl (sem_key (h0.trans key_bar.symm))
    by_cases h1 : key sm = 1
    · exact .inr (.inl (sem_key (h1.trans key_bar2.symm)))
    by_cases h2 : key sm = 80
    · exact .inr (.inr (.inl (sem_key (h2.trans key_send.symm))))
    · exact .inr (.inr (.inr ⟨key sm - 18, Finset.mem_range.mpr (by omega), (sem_key (by rw [key_recv]; omega)).symm⟩))
  · rintro (rfl | rfl | rfl | ⟨σ, -, rfl⟩)
    · rw [key_bar]; omega
    · rw [key_bar2]; omega
    · rw [key_send]; omega
    · rw [key_recv]; omega

theorem ring_split (Φ : SemLoc sig → sProp (MM F)) :
    bigSep ringSems Φ = iprop(Φ (.reg barSem) ∗ Φ (.reg bar2Sem) ∗ Φ (.dma sendSem) ∗ bigSep (Finset.range 62) fun σ => Φ (.dma (rsem σ))) := by
  rw [ringSems_eq, bs_insert, bs_insert, bs_insert, bs_image rsem_inj]
  · rw [Finset.mem_image]
    rintro ⟨σ, -, h⟩
    have h' := congrArg key h
    rw [key_recv, key_send] at h'; omega
  · rw [Finset.mem_insert, Finset.mem_image]
    rintro (h | ⟨σ, -, h⟩)
    · have h' := congrArg key h
      rw [key_bar2, key_send] at h'; omega
    · have h' := congrArg key h
      rw [key_recv, key_bar2] at h'; omega
  · rw [Finset.mem_insert, Finset.mem_insert, Finset.mem_image]
    rintro (h | h | ⟨σ, -, h⟩)
    · have h' := congrArg key h
      rw [key_bar, key_bar2] at h'; omega
    · have h' := congrArg key h
      rw [key_bar, key_send] at h'; omega
    · have h' := congrArg key h
      rw [key_recv, key_bar] at h'; omega

/-- The kernel's own semaphores. -/
abbrev osem (k : Fin 64) : SemLoc sig :=
  if k.val < 62 then .dma (rsem k.val) else if k.val = 62 then .dma sendSem else .reg bar2Sem

theorem key_osem (k : Fin 64) : key (osem k) = if k.val < 62 then 18 + k.val else if k.val = 62 then 80 else 1 := by
  unfold osem
  split
  · rw [key_recv]; omega
  split
  · exact key_send
  · exact key_bar2

theorem osem_inj : Function.Injective osem := fun a b h => by
  have h' := congrArg key h
  rw [key_osem, key_osem] at h'
  have := a.isLt; have := b.isLt
  refine Fin.ext ?_
  split at h' <;> split at h' <;> (try split at h') <;> (try split at h') <;> omega

theorem own_ring : insert (SemLoc.reg barSem) (Finset.univ.image osem) = ringSems := by
  ext sm
  rw [Finset.mem_insert, Finset.mem_image]
  unfold ringSems
  rw [Finset.mem_filter]
  constructor
  · rintro (rfl | ⟨k, -, rfl⟩)
    · exact ⟨Finset.mem_univ _, by rw [key_bar]; omega⟩
    · refine ⟨Finset.mem_univ _, ?_⟩
      rw [key_osem]; split
      · omega
      split <;> omega
  · rintro ⟨-, h⟩
    have hk := key_lt sm
    by_cases h0 : key sm = 0
    · exact .inl (sem_key (h0.trans key_bar.symm))
    by_cases h1 : key sm = 1
    · exact .inr ⟨63, Finset.mem_univ _, (sem_key (h1.trans (by rw [key_osem]; rfl))).symm⟩
    by_cases h2 : key sm = 80
    · exact .inr ⟨62, Finset.mem_univ _, (sem_key (h2.trans (by rw [key_osem]; rfl))).symm⟩
    · refine .inr ⟨⟨key sm - 18, by omega⟩, Finset.mem_univ _, sem_key ?_⟩
      rw [key_osem]
      show (if key sm - 18 < 62 then _ else _) = _
      rw [if_pos (by omega)]
      show 18 + (key sm - 18) = key sm
      omega

theorem bar_not_own : SemLoc.reg barSem ∉ Finset.univ.image osem := by
  rw [Finset.mem_image]
  rintro ⟨k, -, h⟩
  have h' := congrArg key h
  rw [key_osem, key_bar] at h'
  split at h'
  · omega
  split at h' <;> omega

theorem ownSemFacts : Pipeline.OwnSemFacts cfg0.spec osem := by decide +kernel

theorem unscopedSems0_eq (c : Dev nD) : (unscopedSems0 c : sProp (MM F)) = semVal (bcell c) 0 := by
  unfold unscopedSems0; rw [bigSep_eq_bigSepL_of_eq [SemLoc.reg barSem] (by decide +kernel) (by decide)]; rfl

theorem sems0_eq (c : Dev nD) :
    (iprop(unscopedSems0 c ∗ Pipeline.ownSems0 (Ix := ℕ) (Name := ℕ) (U := UU) (Lvl := ℕ) (Val := Elt F) (τ := τ) osem c) : sProp (MM F))
      = bigSep ringSems fun sm => semVal ((c : Thread nD τ), sm) 0 := by
  rw [← own_ring, bs_insert bar_not_own, bs_image (fun x _ y _ h => osem_inj h), unscopedSems0_eq]
  rfl

/-! ## The tokens -/

/-- The duties of a device's own cells. -/
def ownDuties : Finset (SemLoc sig × ℕ × Bool) :=
  insert (.reg barSem, 0, true) (insert (.reg barSem, 0, false) (insert (.reg bar2Sem, 0, true) (insert (.reg bar2Sem, 0, false)
    (((Finset.Ico 0 186).image fun j => (SemLoc.dma (rsem j), j / 62, false)) ∪ (Finset.Ico 0 186).image fun j => (SemLoc.dma sendSem, j, false)))))

theorem duties_split (Φ : SemLoc sig × ℕ × Bool → sProp (MM F)) :
    bigSep ownDuties Φ = iprop(Φ (.reg barSem, 0, true) ∗ Φ (.reg barSem, 0, false) ∗ Φ (.reg bar2Sem, 0, true) ∗ Φ (.reg bar2Sem, 0, false)
      ∗ (bigSep (Finset.Ico 0 186) fun j => Φ (.dma (rsem j), j / 62, false)) ∗ bigSep (Finset.Ico 0 186) fun j => Φ (.dma sendSem, j, false)) := by
  have hno : ∀ (s : Sem sig) (b : Bool), (SemLoc.reg s, 0, b) ∉ ((Finset.Ico 0 186).image fun j => ((SemLoc.dma (rsem j) : SemLoc sig), j / 62, false))
      ∪ (Finset.Ico 0 186).image fun j => ((SemLoc.dma sendSem : SemLoc sig), j, false) := fun s b => by
    rw [Finset.mem_union, Finset.mem_image, Finset.mem_image]
    rintro (⟨j, -, h⟩ | ⟨j, -, h⟩)
    · cases congrArg Prod.fst h
    · cases congrArg Prod.fst h
  have hbb : (SemLoc.reg barSem : SemLoc sig) ≠ .reg bar2Sem := fun h => by
    have h' := congrArg key h
    rw [key_bar, key_bar2] at h'; omega
  unfold ownDuties
  rw [bs_insert, bs_insert, bs_insert, bs_insert (hno _ _), bs_union, bs_image, bs_image]
  · intro x _ y _ h
    exact congrArg (fun p : SemLoc sig × ℕ × Bool => p.2.1) h
  · intro x _ y _ h
    have h1 : x / 62 = y / 62 := congrArg (fun p : SemLoc sig × ℕ × Bool => p.2.1) h
    have h2 := congrArg (fun p : SemLoc sig × ℕ × Bool => key p.1) h
    simp only [key_recv] at h2
    omega
  · rw [Finset.disjoint_left]
    intro p hp hq
    obtain ⟨j, -, rfl⟩ := Finset.mem_image.mp hp
    obtain ⟨i, -, h⟩ := Finset.mem_image.mp hq
    have h2 := congrArg (fun p : SemLoc sig × ℕ × Bool => key p.1) h
    simp only [key_recv, key_send] at h2
    omega
  · rw [Finset.mem_insert, not_or]
    exact ⟨fun h => Bool.noConfusion (congrArg (fun p : SemLoc sig × ℕ × Bool => p.2.2) h), hno _ _⟩
  · rw [Finset.mem_insert, Finset.mem_insert, not_or, not_or]
    exact ⟨fun h => hbb (congrArg Prod.fst h), fun h => hbb (congrArg Prod.fst h), hno _ _⟩
  · rw [Finset.mem_insert, Finset.mem_insert, Finset.mem_insert, not_or, not_or, not_or]
    exact ⟨fun h => Bool.noConfusion (congrArg (fun p : SemLoc sig × ℕ × Bool => p.2.2) h), fun h => hbb (congrArg Prod.fst h),
      fun h => hbb (congrArg Prod.fst h), hno _ _⟩

def ringToks : Finset (GSem nD τ sig × ℕ × Bool) :=
  (Finset.univ ×ˢ ownDuties).map ⟨fun p : Dev nD × SemLoc sig × ℕ × Bool => (((p.1 : Thread nD τ), p.2.1), p.2.2), fun a b h => by
    have h1 : a.1 = b.1 := congrArg (fun g : GSem nD τ sig × ℕ × Bool => g.1.1.1) h
    have h2 : a.2.1 = b.2.1 := congrArg (fun g : GSem nD τ sig × ℕ × Bool => g.1.2) h
    have h3 : a.2.2 = b.2.2 := congrArg (fun g : GSem nD τ sig × ℕ × Bool => g.2) h
    exact Prod.ext h1 (Prod.ext h2 h3)⟩

theorem cells_by_dev (Φ : GSem nD τ sig → sProp (MM F)) :
    bigSep ringCells Φ = bigSep Finset.univ fun c : Dev nD => bigSep ringSems fun sm => Φ ((c : Thread nD τ), sm) := by
  unfold ringCells; rw [bigSep_map, bs_prod]; rfl
theorem toks_by_dev (Φ : GSem nD τ sig × ℕ × Bool → sProp (MM F)) :
    bigSep ringToks Φ = bigSep Finset.univ fun c : Dev nD => bigSep ownDuties fun x => Φ (((c : Thread nD τ), x.1), x.2) := by
  unfold ringToks; rw [bigSep_map, bs_prod]; rfl

/-- The ring shifted by `k`. -/
def ringE (k : ℕ) (hk : k ≤ 32) : Dev nD ≃ Dev nD where
  toFun d := sh d k
  invFun d := sh d (32 - k)
  left_inv d := by show sh (sh d k) (32 - k) = d; rw [sh_sh]; exact sh_self d (by omega)
  right_inv d := by show sh (sh d (32 - k)) k = d; rw [sh_sh]; exact sh_self d (by omega)

theorem around (k : ℕ) (hk : k ≤ 32) (Φ : Dev nD → sProp (MM F)) :
    bigSep Finset.univ Φ = bigSep Finset.univ fun c => Φ (sh c k) := bigSep_univ_equiv (ringE k hk) Φ

/-- The duties of messages a device pays. -/
def MsgToks (c : Dev nD) : sProp (MM F) :=
  iprop((bigSep (Finset.Ico 0 186) fun j => dutyTok ER (rcell (sh c 1) j) (j / 62) false)
    ∗ bigSep (Finset.Ico 0 186) fun j => dutyTok ER (scell c) j false)

theorem toks_around :
    (bigSep Finset.univ fun c : Dev nD => bigSep ownDuties fun x => dutyTok ER ((c : Thread nD τ), x.1) x.2.1 x.2.2 : sProp (MM F))
      ⊢ bigSep Finset.univ fun c => iprop(BarToks c ∗ MsgToks c) := by
  rw [bigSep_congr (s := Finset.univ) fun (c : Dev nD) _ => duties_split (F := F) fun x => dutyTok ER ((c : Thread nD τ), x.1) x.2.1 x.2.2]
  unfold BarToks MsgToks
  simp only [bigSep_sep']
  rw [around 31 (by omega) (fun c => dutyTok ER ((c : Thread nD τ), .reg barSem) 0 true),
    around 1 (by omega) (fun c => dutyTok ER ((c : Thread nD τ), .reg barSem) 0 false),
    around 31 (by omega) (fun c => dutyTok ER ((c : Thread nD τ), .reg bar2Sem) 0 true),
    around 1 (by omega) (fun c => dutyTok ER ((c : Thread nD τ), .reg bar2Sem) 0 false),
    around 1 (by omega) (fun c => bigSep (Finset.Ico 0 186) fun j => dutyTok ER ((c : Thread nD τ), .dma (rsem j)) (j / 62) false)]
  iintro ⟨H1, H2, H3, H4, H5, H6⟩
  isplitr [H5 H6]
  · isplitl [H1]; · iexact H1
    isplitl [H2]; · iexact H2
    isplitl [H3] <;> iassumption
  isplitl [H5] <;> iassumption

/-! ## What the launch deals each device -/

section Launch
variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- Window `w`'s block at the one point, as the launch finds it. -/
def st0 (c : Dev nD) : FVec F S512x256 .bf16 := (win0_0.blk (0 : Fin 1)).view.read (Elt F) (m ((c : Thread nD τ).loc main_arg0))
def st1 (c : Dev nD) : FVec F S256x512 .bf16 := (win0_1.blk (0 : Fin 1)).view.read (Elt F) (m ((c : Thread nD τ).loc main_arg1))
def st2 (c : Dev nD) : FVec F S512x256 .bf16 := (win0_2.blk (0 : Fin 1)).view.read (Elt F) (m ((c : Thread nD τ).loc main_arg2))
def st3 (c : Dev nD) : FVec F S256x512 .bf16 := (win0_3.blk (0 : Fin 1)).view.read (Elt F) (m ((c : Thread nD τ).loc main_arg3))
def st4 (c : Dev nD) : FVec F S512x256 .bf16 := (win0_4.blk (0 : Fin 1)).view.read (Elt F) (m ((c : Thread nD τ).loc main_arg4))
def st5 (c : Dev nD) : FVec F S256x512 .bf16 := (win0_5.blk (0 : Fin 1)).view.read (Elt F) (m ((c : Thread nD τ).loc main_arg5))
def st6 (c : Dev nD) : FVec F S512x256 .bf16 := (win0_6.blk (0 : Fin 1)).view.read (Elt F) (m ((c : Thread nD τ).loc main_arg6))

/-- The devices' blocks as the launch finds them. -/
def inp : Inp F where
  x := st0 m
  wi l := match l with
    | 0 => st1 m
    | 1 => st3 m
    | _ + 2 => st5 m
  wo l := match l with
    | 0 => st2 m
    | 1 => st4 m
    | _ + 2 => st6 m

/-- What device `c` ends with. -/
def outV (c : Dev nD) : FVec F S512x256 .f32 := Tot (PP (inp m) 2) c

def start (c : Dev nD) : sProp (MM F) :=
  iprop(∃ K, Invs (inp m) K ∗ (BarToks c ∗ AtStart c ∗ BarCreds c ∗ Tok c 0))

def G (c : Dev nD) : sProp (MM F) :=
  iprop((bigSep ringSems fun sm => roundState ER (Rd (inp m)) ((c : Thread nD τ), sm) 0)
    ∗ (bigSep ringSems fun sm => reached ER ((c : Thread nD τ), sm) 0)
    ∗ (bigSep ringSems fun sm => atPos ER ((c : Thread nD τ), sm) 0 ∅ 0)
    ∗ (bigSep ownDuties fun x => dutyTok ER ((c : Thread nD τ), x.1) x.2.1 x.2.2))

def Recs (K : GSem nD τ sig → ℕ) : sProp (MM F) :=
  iprop((bigSep ringCells fun g => cellInv ER (Rd (inp m)) (K g) g) ∗ bigSep ringCells fun g => reached ER g 0)

instance Recs_persistent (K : GSem nD τ sig → ℕ) : BI.Persistent (Recs m K) := by unfold Recs; infer_instance

def G' (c : Dev nD) : sProp (MM F) := iprop(∃ K, Recs m K ∗ AtStart c ∗ BarToks c ∗ MsgToks c)

def u₀ : UU := (initOf (Pipeline.cells cfgs cellOf_inj) (Pipeline.launchToks cfgs cellOf_inj), initOf ringCells ringToks)

theorem fund_ring : BI.own (ER (initOf ringCells ringToks)) ⊢ (|==> bigSep Finset.univ (G m) : sProp (MM F)) := by
  iintro HX
  imod (Rounds.fund ER (Rd (inp m)) ringCells ringToks) $$ HX with ⟨Hst, Hr, Hat, Htok⟩
  imodintro
  ihave Hst := (Entails.of_eq (cells_by_dev fun g => roundState ER (Rd (inp m)) g 0)) $$ Hst
  ihave Hr := (Entails.of_eq (cells_by_dev (F := F) fun g => reached ER g 0)) $$ Hr
  ihave Hat := (Entails.of_eq (cells_by_dev (F := F) fun g => atPos ER g 0 ∅ 0)) $$ Hat
  ihave Htok := (Entails.of_eq (toks_by_dev (F := F) fun x => dutyTok ER x.1 x.2.1 x.2.2)) $$ Htok
  unfold G; simp only [bigSep_sep']
  isplitl [Hst]; · iexact Hst
  isplitl [Hr]; · iexact Hr
  isplitl [Hat] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep ringSems fun sm => iprop(∃ κ : ℕ, cellInv ER (Rd (inp m)) κ ((c : Thread nD τ), sm)))
          ∗ (bigSep ringSems fun sm => reached ER ((c : Thread nD τ), sm) 0) ∗ (bigSep ringSems fun sm => atPos ER ((c : Thread nD τ), sm) 0 ∅ 0)
          ∗ (bigSep ownDuties fun x => dutyTok ER ((c : Thread nD τ), x.1) x.2.1 x.2.2)) := by
  unfold G
  iintro ⟨Hos, Hus, Hst, Hr, Hat, Htok⟩
  ihave Hv := (Entails.of_eq (sems0_eq (F := F) c)) $$ [Hos Hus]
  · isplitl [Hus] <;> iassumption
  imod (show iprop((bigSep ringSems fun sm => semVal ((c : Thread nD τ), sm) 0) ∗ bigSep ringSems fun sm => roundState ER (Rd (inp m)) ((c : Thread nD τ), sm) 0)
      ⊢ (|={Set.univ}=> bigSep ringSems fun sm => iprop(∃ κ : ℕ, cellInv ER (Rd (inp m)) κ ((c : Thread nD τ), sm)) : sProp (MM F)) from by
        rw [← bigSep_sep']
        exact (bigSep_mono fun sm _ => (Rounds.body_intro ER (Rd (inp m)) ((c : Thread nD τ), sm)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem bs_with {A : Type} [DecidableEq A] {S : Finset A} {R : sProp (MM F)} [BI.Persistent R] {Φ Ψ : A → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : GSem nD τ sig → ℕ) (c : Dev nD) :
    iprop(Recs m K ∗ (bigSep ringSems fun sm => atPos ER ((c : Thread nD τ), sm) 0 ∅ 0) ∗ BarToks c ∗ MsgToks c) ⊢ (G' m c : sProp (MM F)) := by
  rw [ring_split]
  unfold G' AtStart
  iintro ⟨HR, HA, HB, HM⟩
  iexists K
  isplitl [HR]; · iexact HR
  isplitl [HA]; · iexact HA
  isplitl [HB] <;> iassumption

theorem regroup :
    (bigSep Finset.univ fun c : Dev nD => iprop((bigSep ringSems fun sm => iprop(∃ κ : ℕ, cellInv ER (Rd (inp m)) κ ((c : Thread nD τ), sm)))
          ∗ (bigSep ringSems fun sm => reached ER ((c : Thread nD τ), sm) 0) ∗ (bigSep ringSems fun sm => atPos ER ((c : Thread nD τ), sm) 0 ∅ 0)
          ∗ (bigSep ownDuties fun x => dutyTok ER ((c : Thread nD τ), x.1) x.2.1 x.2.2)) : sProp (MM F))
      ⊢ bigSep Finset.univ (G' m) := by
  rw [bigSep_sep', bigSep_sep', bigSep_sep', ← cells_by_dev (fun g => iprop(∃ κ : ℕ, cellInv ER (Rd (inp m)) κ g)),
    ← cells_by_dev (fun g => (reached ER g 0 : sProp (MM F)))]
  iintro ⟨HI, #HR, Hat, Htok⟩
  ihave HK := (BI.bigSep_exists_pi ringCells (fun (g : GSem nD τ sig) (κ : ℕ) => (cellInv ER (Rd (inp m)) κ g : sProp (MM F)))) $$ HI
  icases HK with ⟨%K, #HI⟩
  ihave Htk := (toks_around (F := F)) $$ Htok
  iapply (bs_with (R := Recs m K) fun c _ => deal m K c)
  isplitr
  · unfold Recs
    isplitl; · iexact HI
    iexact HR
  simp only [bigSep_sep']
  isplitl [Hat]; · iexact Hat
  iexact Htk

theorem glob :
    (bigSep Finset.univ fun c => iprop(Pipeline.ownSems0 (Ix := ℕ) (Name := ℕ) (U := UU) (Lvl := ℕ) (Val := Elt F) (τ := τ) osem c ∗ unscopedSems0 c ∗ G m c) : sProp (MM F))
      ⊢ |={Set.univ}=> bigSep Finset.univ (G' m) :=
  ((bigSep_mono fun c _ => core_alloc m c).trans (bigSep_fupd _ _)).trans (BI.fupd_mono (regroup m))

/-! ## The launch credit -/

theorem cred_tally (sm : SemLoc sig) (k : ℕ) (hk : k ≤ 32) (i n : ℕ) (c : Dev nD) :
    (Pipeline.launchCred (fun d => tallyAt ((sh d k : Thread nD τ), sm) i n) c : sProp (MM F)) ⊢ cred (tallyAt ((c : Thread nD τ), sm) i n) :=
  Pipeline.launchCred_tallyAt sm (fun d => sh d k) (fun d => sh d (32 - k))
    (fun d => by rw [sh_sh]; exact sh_self d (by omega)) (fun d => by rw [sh_sh]; exact sh_self d (by omega)) i n c

theorem cred_two (g : GSem nD τ sig) :
    iprop(cred (tallyAt g 0 1) ∗ cred (tallyAt g 0 1)) ⊢ (cred (tallyAt g 0 2) : sProp (MM F)) := by
  rw [show (tallyAt g 0 2 : CellTallies nD τ sig ℕ) = tallyAt g 0 1 + tallyAt g 0 1 from (tallyAt_add g 0 1 1).symm]
  exact (cred_add _ _).2

theorem O₀_sum : (O₀ : Dev nD → CellTallies nD τ sig ℕ) = fun d =>
    (((∑ j ∈ Finset.Ico 0 186, tallyAt (rcell (sh d 1) j) (j / 62) (amt j))
      + (tallyAt (b2cell (sh d 1)) 0 1 + tallyAt (b2cell (sh d 31)) 0 1)) + tallyAt (bcell (sh d 1)) 0 1) + tallyAt (bcell (sh d 31)) 0 1 := rfl

theorem creds (c : Dev nD) :
    (Pipeline.launchCred O₀ c : sProp (MM F))
      ⊢ iprop(BarCreds c ∗ bigSep (Finset.Ico 0 186) fun j => cred (tallyAt (rcell c j) (j / 62) (amt j))) := by
  rw [O₀_sum, Pipeline.launchCred_add, Pipeline.launchCred_add, Pipeline.launchCred_add, Pipeline.launchCred_add,
    Pipeline.launchCred_sum (Finset.Ico 0 186) (fun j d => tallyAt (rcell (sh d 1) j) (j / 62) (amt j))]
  unfold BarCreds
  iintro ⟨⟨⟨HM, H1, H2⟩, H3⟩, H4⟩
  ihave HM := (show (bigSep (Finset.Ico 0 186) fun j => Pipeline.launchCred (fun d => tallyAt (rcell (sh d 1) j) (j / 62) (amt j)) c : sProp (MM F))
      ⊢ bigSep (Finset.Ico 0 186) fun j => cred (tallyAt (rcell c j) (j / 62) (amt j)) from
    bigSep_mono fun j _ => cred_tally (F := F) (.dma (rsem j)) 1 (by omega) (j / 62) (amt j) c) $$ HM
  ihave H1 := (cred_tally (F := F) (.reg bar2Sem) 1 (by omega) 0 1 c) $$ H1
  ihave H2 := (cred_tally (F := F) (.reg bar2Sem) 31 (by omega) 0 1 c) $$ H2
  ihave H3 := (cred_tally (F := F) (.reg barSem) 1 (by omega) 0 1 c) $$ H3
  ihave H4 := (cred_tally (F := F) (.reg barSem) 31 (by omega) 0 1 c) $$ H4
  isplitr [HM]
  · isplitl [H3 H4]
    · iapply (cred_two (bcell c))
      isplitl [H3] <;> iassumption
    · iapply (cred_two (b2cell c))
      isplitl [H1] <;> iassumption
  iexact HM

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HM⟩
  imodintro
  unfold start G' MsgToks Recs Invs Tok
  simp only [bigSep_sep']
  icases HG with ⟨%K, ⟨HI, HR⟩, HA, HT, HM1, HM2⟩
  isplitl
  · iexists K
    isplitl [HI HR Hlev]
    · isplitl [HI]; · iexact HI
      isplitl [HR] <;> iassumption
    isplitl [HT]; · iexact HT
    isplitl [HA]; · iexact HA
    isplitl [HB]; · iexact HB
    isplitl [HM1]; · iexact HM1
    isplitl [HM2] <;> iassumption
  · iempintro

/-! ## The pipeline's proof data -/

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => st0 m c
    | ⟨1, _⟩ => st1 m c
    | ⟨2, _⟩ => st2 m c
    | ⟨3, _⟩ => st3 m c
    | ⟨4, _⟩ => st4 m c
    | ⟨5, _⟩ => st5 m c
    | ⟨6, _⟩ => st6 m c
    | ⟨7, _⟩ => outV m c
  Φ t := match t with
    | ⟨0, _⟩ => iprop(start m c ∗ Scr c)
    | ⟨_ + 1, _⟩ => iprop(Zeros c ∗ Scr c)
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_bufP (c : Dev nD) {s : Shape} {e : EltTy} (M : Memref sig .tc .vmem s e) (v : Vec F s e) :
    (owns (Ix := ℕ) (Name := ℕ) (U := UU) (Lvl := ℕ) (c : Thread nD τ) M fullShare v : sProp (MM F)) = bufP c M v := rfl

def bodyPre (c : Dev nD) : sProp (MM F) :=
  iprop((start m c ∗ Scr c) ∗ (dats m ρ 0 c).owesAt 0 t0_0.castSucc ∗ Args (inp m) c ∗ ∃ v, bufP c (Memref.whole cc0_stg7_0) v)
def bodyPost (c : Dev nD) : sProp (MM F) :=
  iprop((Zeros c ∗ Scr c) ∗ (dats m ρ 0 c).owesAt 0 t0_0.succ ∗ Args (inp m) c ∗ bufP c (Memref.whole cc0_stg7_0) (outV m c))

theorem sound_body (c : Dev nD) : bodyPre m ρ c ⊢ WP c (printed (F := F)) fun _ => bodyPost m ρ c := by
  rw [printed_eq]
  unfold bodyPre bodyPost start Dat.owesAt Pipeline.owesWithin
  rw [show (dats m ρ 0 c).owed t0_0.castSucc = O₀ c from rfl, show (dats m ρ 0 c).owed t0_0.succ = 0 from rfl]
  iintro ⟨⟨⟨%K, HI, HS⟩, Hscr⟩, ⟨%W, %hW, HO⟩, HA, H7⟩
  iapply (wp_body (inp m) K c) $$ [HI HS Hscr HO HA H7]
  · isplitl [HI]; · iexact HI
    isplitl [HS]; · iexact HS
    isplitl [HO]; · iexists W; iexact HO
    isplitl [Hscr]; · iexact Hscr
    isplitl [HA] <;> iassumption
  iintro ⟨Hz, ⟨%W', HO⟩, Hscr, HA, H7⟩
  isplitl [Hz Hscr]
  · isplitl [Hz] <;> iassumption
  isplitl [HO]
  · iexists W'
    isplitr; · ipureintro; exact fun _ _ => Or.inl trivial
    iexact HO
  isplitl [HA]; · iexact HA
  iexact H7

/-! ## The body's obligation -/

theorem fetch_in (w : Fin cfg0.W) (h : w.val < 7) (t : Fin cfg0.N) : (cfg0.win w).fetch t = true := by
  rw [fin_N0 t]; fin_cases w <;> first | rfl | exact absurd h (by decide)

def bodyPre' (c : Dev nD) : sProp (MM F) :=
  iprop((start m c ∗ Scr c) ∗ (dats m ρ 0 c).owesAt 0 t0_0.castSucc
    ∗ (∃ d, bufP c (Memref.whole cc0_stg0_0) ((dats m ρ 0 c).before (0 : Fin 8) t0_0 d))
    ∗ (∃ d, bufP c (Memref.whole cc0_stg1_0) ((dats m ρ 0 c).before (1 : Fin 8) t0_0 d))
    ∗ (∃ d, bufP c (Memref.whole cc0_stg2_0) ((dats m ρ 0 c).before (2 : Fin 8) t0_0 d))
    ∗ (∃ d, bufP c (Memref.whole cc0_stg3_0) ((dats m ρ 0 c).before (3 : Fin 8) t0_0 d))
    ∗ (∃ d, bufP c (Memref.whole cc0_stg4_0) ((dats m ρ 0 c).before (4 : Fin 8) t0_0 d))
    ∗ (∃ d, bufP c (Memref.whole cc0_stg5_0) ((dats m ρ 0 c).before (5 : Fin 8) t0_0 d))
    ∗ (∃ d, bufP c (Memref.whole cc0_stg6_0) ((dats m ρ 0 c).before (6 : Fin 8) t0_0 d))
    ∗ (∃ d, bufP c (Memref.whole cc0_stg7_0) ((dats m ρ 0 c).before (7 : Fin 8) t0_0 d)))
def bodyPost' (c : Dev nD) : sProp (MM F) :=
  iprop((Zeros c ∗ Scr c) ∗ (dats m ρ 0 c).owesAt 0 t0_0.succ
    ∗ bufP c (Memref.whole cc0_stg0_0) (st0 m c) ∗ bufP c (Memref.whole cc0_stg1_0) (st1 m c) ∗ bufP c (Memref.whole cc0_stg2_0) (st2 m c)
    ∗ bufP c (Memref.whole cc0_stg3_0) (st3 m c) ∗ bufP c (Memref.whole cc0_stg4_0) (st4 m c) ∗ bufP c (Memref.whole cc0_stg5_0) (st5 m c)
    ∗ bufP c (Memref.whole cc0_stg6_0) (st6 m c) ∗ bufP c (Memref.whole cc0_stg7_0) (outV m c))

theorem before_0 (c : Dev nD) (d) : (dats m ρ 0 c).before (0 : Fin 8) t0_0 d = st0 m c := by
  unfold Dat.before; rw [if_pos (fetch_in (0 : Fin 8) (by decide) t0_0)]; rfl
theorem before_1 (c : Dev nD) (d) : (dats m ρ 0 c).before (1 : Fin 8) t0_0 d = st1 m c := by
  unfold Dat.before; rw [if_pos (fetch_in (1 : Fin 8) (by decide) t0_0)]; rfl
theorem before_2 (c : Dev nD) (d) : (dats m ρ 0 c).before (2 : Fin 8) t0_0 d = st2 m c := by
  unfold Dat.before; rw [if_pos (fetch_in (2 : Fin 8) (by decide) t0_0)]; rfl
theorem before_3 (c : Dev nD) (d) : (dats m ρ 0 c).before (3 : Fin 8) t0_0 d = st3 m c := by
  unfold Dat.before; rw [if_pos (fetch_in (3 : Fin 8) (by decide) t0_0)]; rfl
theorem before_4 (c : Dev nD) (d) : (dats m ρ 0 c).before (4 : Fin 8) t0_0 d = st4 m c := by
  unfold Dat.before; rw [if_pos (fetch_in (4 : Fin 8) (by decide) t0_0)]; rfl
theorem before_5 (c : Dev nD) (d) : (dats m ρ 0 c).before (5 : Fin 8) t0_0 d = st5 m c := by
  unfold Dat.before; rw [if_pos (fetch_in (5 : Fin 8) (by decide) t0_0)]; rfl
theorem before_6 (c : Dev nD) (d) : (dats m ρ 0 c).before (6 : Fin 8) t0_0 d = st6 m c := by
  unfold Dat.before; rw [if_pos (fetch_in (6 : Fin 8) (by decide) t0_0)]; rfl

theorem pre_open (c : Dev nD) : bodyPre' m ρ c ⊢ bodyPre m ρ c := by
  unfold bodyPre' bodyPre Args
  simp only [before_0, before_1, before_2, before_3, before_4, before_5, before_6]
  iintro ⟨H, Ho, ⟨%_, H0⟩, ⟨%_, H1⟩, ⟨%_, H2⟩, ⟨%_, H3⟩, ⟨%_, H4⟩, ⟨%_, H5⟩, ⟨%_, H6⟩, ⟨%d, H7⟩⟩
  isplitl [H]; · iexact H
  isplitl [Ho]; · iexact Ho
  isplitr [H7]
  · isplitl [H0]; · iexact H0
    isplitl [H1]; · iexact H1
    isplitl [H2]; · iexact H2
    isplitl [H3]; · iexact H3
    isplitl [H4]; · iexact H4
    isplitl [H5]; · iexact H5
    iexact H6
  iexists ((dats m ρ 0 c).before (7 : Fin 8) t0_0 d)
  iexact H7

theorem post_close (c : Dev nD) : bodyPost m ρ c ⊢ bodyPost' m ρ c := by
  unfold bodyPost' bodyPost Args
  iintro ⟨H, Ho, ⟨H0, H1, H2, H3, H4, H5, H6⟩, H7⟩
  isplitl [H]; · iexact H
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem WP_mono (c : Dev nD) {α : Type} {P : Prog (Eff F) α} {Q Q' : α → sProp (MM F)} (h : ∀ a, Q a ⊢ Q' a) : WP c P Q ⊢ WP c P Q' :=
  (wp _ _ _ P).mono h

set_option maxRecDepth 60000 in
theorem sound_body' (c : Dev nD) : bodyPre' m ρ c ⊢ WP c (printed (F := F)) fun _ => bodyPost' m ρ c := by
  rw [printed_eq]
  exact ((pre_open m ρ c).trans (by rw [← printed_eq]; exact sound_body m ρ c)).trans (WP_mono c fun _ => post_close m ρ c)

set_option maxRecDepth 60000 in
theorem body_obligation (c : Dev nD) : BodyObligation (dats (F := F) m ρ 0 c) (defs₀ (F := F)) 𝒱₀ 0 Set.univ := fun t => by
  rw [fin_N0 t, bigSep_W0, bigSep_W0]
  exact sound_body' m ρ c

/-! ## The launch's side conditions -/

theorem waits (c : Dev nD) : (levAts L lv : sProp (MM F)) ⊢ Pipeline.cellsWaits cfgs (dats m ρ) 0 0 c :=
  Pipeline.cellsWaits_intro cfgs (dats m ρ) 0 0 c fun w s t => by
    have hk : lv ((c : Thread nD τ), .dma ((cfg0.win w).sem s)) 0 = 0 := by
      fin_cases w <;> fin_cases s <;> rfl
    rcases t with ⟨_ | _, ht⟩
    · exact mayWait_of_lv c _ 0 (by omega) _ fun g j h => by
        have := O₀_lv h
        exact ⟨this.1, by rw [hk]; omega⟩
    · rw [show (dats m ρ 0 c).owed ⟨_ + 1, ht⟩ = 0 from rfl, MayWait_zero]; iintro -; iempintro

theorem hold_any (c : Dev nD) (b : Ref sig .tc) :
    iprop(∃ f : Buf (Elt F) ((c : Thread nD τ).loc b), ((c : Thread nD τ).loc b) ↦{fullShare} f)
      = (iprop(∃ f, ((View.whole b : View sig .tc _ _ _).loc (c : Thread nD τ) ↦[(View.whole b : View sig .tc _ _ _).set]{fullShare} f)) : sProp (MM F)) := by
  rw [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Scr c) from rfl, scopedRest0_eq]
  simp only [hold_any]
  unfold Scr chAny wholeAny bufP
  iintro ⟨Hs, -, H0, H1, H2, H3, ⟨%f4, H4⟩, ⟨%f5, H5⟩⟩
  isplitl [Hs]; · iexact Hs
  isplitl [H0]; · iexact H0
  isplitl [H1]; · iexact H1
  isplitl [H2]; · iexact H2
  isplitl [H3]; · iexact H3
  isplitl [H4]
  · iexists (wiM.view.read (Elt F) f4)
    iexists f4
    isplitr; · ipureintro; rfl
    iexact H4
  · iexists (woM.view.read (Elt F) f5)
    iexists f5
    isplitr; · ipureintro; rfl
    iexact H5

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Zeros c ∗ Scr c) from rfl, scopedRest0_eq]
  simp only [hold_any]
  have hz : (Zeros c : sProp (MM F)) ⊢ iprop(unscopedSems0 c ∗ Pipeline.ownSems0 osem c) := by
    rw [sems0_eq, ring_split]; unfold Zeros; exact .rfl
  unfold Scr chAny wholeAny bufP
  iintro ⟨Hz, H0, H1, H2, H3, ⟨%v4, %f4, -, H4⟩, ⟨%v5, %f5, -, H5⟩⟩
  ihave Hz := hz $$ Hz
  icases Hz with ⟨Hu, Ho⟩
  isplitl [Hu]; · iexact Hu
  isplitl [Ho]; · iexact Ho
  isplitl [H0]; · iexact H0
  isplitl [H1]; · iexact H1
  isplitl [H2]; · iexact H2
  isplitl [H3]; · iexact H3
  isplitl [H4]
  · iexists f4; iexact H4
  · iexists f5; iexact H5

/-! ## The run -/

def finalA (c : Dev nD) (w : Fin cfg0.W) : Buf (Elt F) ((cfg0.win w).arr.view.loc (c : Thread nD τ)) := (dats m ρ 0 c).arrAt w cfg0.N

set_option maxRecDepth 60000 in
/-- On the ring of 32 devices, for any float values, from any memory with zero counters: every weakly fair execution of @main
    terminates, and every final state has each device's arrays at the computed contents and every semaphore counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Launch

end Cert.RingMlp

end
-- ==== Proof.Value.lean ====
/-
The value at the ideal floats: a device's three layers are its block of rows of the reference's, each layer's products over the
hidden columns summed device by device around the ring.
-/
module

public import proofs.«01_k».proof.Proof.Launch
public import proofs.«01_k».proof.Proof.Gen.ReferenceIdeal.Run
public import Idealize.ShloMosaic.Lib.Pointwise
public import Idealize.ShloMosaic.Lib.Layout

@[expose] public section

noncomputable section

namespace Cert.RingMlp

open Cert.KernelIdeal Cert.KernelIdeal.Gen
open Idealize.ShloMosaic

/-! ## A layer at an index -/

/-- An element of the hidden activations: row `r`, hidden column `k`. -/
def hid {R K : ℕ} (x : (⟨2, ![R, 256]⟩ : Shape).Idx → EReal) (wi : (⟨2, ![256, K]⟩ : Shape).Idx → EReal) (r : Fin R) (k : Fin K) : EReal :=
  max (∑ q : Fin 256, x (ix2 r q) * wi (ix2 q k)) 0

theorem mlp_apply (x : FVec Ideal S512x256 .bf16) (wi : FVec Ideal S256x512 .bf16) (wo : FVec Ideal S512x256 .bf16) (r : Fin 512) (n : Fin 256) :
    mlp x wi wo (ix2 r n) = ∑ k : Fin 512, hid x wi r k * wo (ix2 k n) := by
  unfold mlp hid
  simp only [pointwise, zero_add]

/-- A layer of the reference. -/
def refLayer (x : FVec Ideal Cert.ReferenceIdeal.S16384x256 .bf16) (wi : FVec Ideal Cert.ReferenceIdeal.S256x16384 .bf16)
    (wo : FVec Ideal Cert.ReferenceIdeal.S16384x256 .bf16) : FVec Ideal Cert.ReferenceIdeal.S16384x256 .bf16 :=
  truncf .bf16 (Host.dotGeneral Cert.ReferenceIdeal.dot_S16384x16384_S16384x256_S16384x256_1_0_0_1_n_n none
    (maximumf (truncf .bf16 (Host.dotGeneral Cert.ReferenceIdeal.dot_S16384x256_S256x16384_S16384x16384_1_0_0_1_n_n none x wi) bitsLt_bf16_f32)
      (broadcastInDim Cert.ReferenceIdeal.S16384x16384 ![] Cert.ReferenceIdeal.Facts₀.bcast_S_S16384x16384 (constant Cert.ReferenceIdeal.S_ .bf16 0x0000#16))) wo) bitsLt_bf16_f32

theorem refLayer_apply (x : FVec Ideal Cert.ReferenceIdeal.S16384x256 .bf16) (wi : FVec Ideal Cert.ReferenceIdeal.S256x16384 .bf16)
    (wo : FVec Ideal Cert.ReferenceIdeal.S16384x256 .bf16) (r : Fin 16384) (n : Fin 256) :
    refLayer x wi wo (ix2 r n) = ∑ k : Fin 16384, hid x wi r k * wo (ix2 k n) := by
  unfold refLayer hid
  simp only [pointwise, zero_add]

/-! ## The sum around the ring -/

theorem av_apply (P : Dev nD → Dev nD → FVec Ideal S512x256 .bf16) (i : S512x256.Idx) : ∀ (s : ℕ) (_ : s ≤ 30) (d : Dev nD),
    Av P s d i = ∑ t ∈ Finset.range (s + 1), P (sh d (32 - t)) (sh d (31 - s)) i
  | 0, _, d => by
    rw [Finset.sum_range_one, show sh d (32 - 0) = d from sh_self d (by omega)]; rfl
  | s + 1, hs, d => by
    rw [Finset.sum_range_succ', show sh d (32 - 0) = d from sh_self d (by omega)]
    show Av P s (sh d 31) i + P d (sh d (30 - s)) i = _
    rw [av_apply P i s (by omega), show 31 - (s + 1) = 30 - s by omega]
    congr 1
    refine Finset.sum_congr rfl fun t ht => ?_
    have := Finset.mem_range.mp ht
    rw [sh_sh, sh_sh, sh_congr d (show (31 + (32 - t)) % 32 = (32 - (t + 1)) % 32 by omega),
      sh_congr d (show (31 + (31 - s)) % 32 = (30 - s) % 32 by omega)]

theorem tot_apply (P : Dev nD → Dev nD → FVec Ideal S512x256 .bf16) (i : S512x256.Idx) (d : Dev nD) :
    Tot P d i = ∑ e : Dev nD, P e d i := by
  show Av P 30 (sh d 31) i + P d d i = _
  have hr : ∑ e : Dev nD, P e d i = ∑ t ∈ Finset.range 32, P (sh d (32 - t)) d i := by
    symm
    refine Finset.sum_bij' (fun t _ => sh d (32 - t)) (fun e _ => (d.val + 32 - e.val) % 32) (fun _ _ => Finset.mem_univ _)
      (fun e _ => Finset.mem_range.mpr (Nat.mod_lt _ (by omega))) ?_ ?_ fun _ _ => rfl
    · intro t ht
      have := Finset.mem_range.mp ht
      have hd : d.val < 32 := d.isLt
      show (d.val + 32 - (sh d (32 - t)).val) % 32 = t
      rw [sh_val]; omega
    · intro e _
      have hd : d.val < 32 := d.isLt
      have he : e.val < 32 := e.isLt
      refine Fin.ext ?_
      rw [sh_val]; omega
  rw [hr, Finset.sum_range_succ', show sh d (32 - 0) = d from sh_self d (by omega), av_apply P i 30 le_rfl]
  congr 1
  refine Finset.sum_congr rfl fun t ht => ?_
  have := Finset.mem_range.mp ht
  rw [sh_sh, sh_sh, show sh d (31 + (31 - 30)) = d from sh_self d (by omega)]
  rw [sh_congr d (show (31 + (32 - t)) % 32 = (32 - (t + 1)) % 32 by omega)]

/-! ## A layer block by block -/

abbrev rowsB (c : Dev nD) (v : Cert.ReferenceIdeal.S16384x256.Idx → EReal) : S512x256.Idx → EReal :=
  Layout.block ⟨2, ![512, 256]⟩ ⟨2, ![16384, 256]⟩ 0 32 c v
abbrev colsB (c : Dev nD) (v : Cert.ReferenceIdeal.S256x16384.Idx → EReal) : S256x512.Idx → EReal :=
  Layout.block ⟨2, ![256, 512]⟩ ⟨2, ![256, 16384]⟩ 1 32 c v

theorem in_lt (c : Dev nD) (r : Fin 512) : c.val * 512 + r.val < 16384 := by
  have : c.val < 32 := c.isLt
  have := r.isLt; omega

theorem rowsB_apply (c : Dev nD) (v : Cert.ReferenceIdeal.S16384x256.Idx → EReal) (r : Fin 512) (n : Fin 256) :
    rowsB c v (ix2 r n) = v (ix2 ⟨c.val * 512 + r.val, in_lt c r⟩ n) :=
  congrArg v (funext fun b => Fin.ext (by fin_cases b <;> rfl))

theorem colsB_apply (c : Dev nD) (v : Cert.ReferenceIdeal.S256x16384.Idx → EReal) (q : Fin 256) (k : Fin 512) :
    colsB c v (ix2 q k) = v (ix2 q ⟨c.val * 512 + k.val, in_lt c k⟩) :=
  congrArg v (funext fun b => Fin.ext (by fin_cases b <;> rfl))

theorem layer_block (x : FVec Ideal Cert.ReferenceIdeal.S16384x256 .bf16) (wi : FVec Ideal Cert.ReferenceIdeal.S256x16384 .bf16)
    (wo : FVec Ideal Cert.ReferenceIdeal.S16384x256 .bf16) (c : Dev nD) :
    Tot (F := Ideal) (fun d j => mlp (F := Ideal) (rowsB j x) (colsB d wi) (rowsB d wo)) c = rowsB c (refLayer x wi wo) := by
  funext i
  obtain ⟨r, n, rfl⟩ : ∃ (r : Fin 512) (n : Fin 256), i = ix2 r n := ⟨i 0, i 1, eq_ix2 i⟩
  rw [tot_apply, rowsB_apply, refLayer_apply, Fin.sum_univ_tiles 32 512 rfl]
  refine Finset.sum_congr rfl fun d _ => ?_
  rw [mlp_apply]
  refine Finset.sum_congr rfl fun k _ => ?_
  unfold hid
  rw [rowsB_apply]
  congr 2
  exact Finset.sum_congr rfl fun q _ => by rw [rowsB_apply, colsB_apply]

/-! ## Three layers -/

section Three
variable (x : FVec Ideal Cert.ReferenceIdeal.S16384x256 .bf16) (wi : ℕ → FVec Ideal Cert.ReferenceIdeal.S256x16384 .bf16)
    (wo : ℕ → FVec Ideal Cert.ReferenceIdeal.S16384x256 .bf16)

def refOut : ℕ → FVec Ideal Cert.ReferenceIdeal.S16384x256 .bf16
  | 0 => x
  | l + 1 => refLayer (refOut l) (wi l) (wo l)

variable {I : Inp Ideal} (hx : ∀ c, I.x c = rowsB c x) (hi : ∀ l c, I.wi l c = colsB c (wi l)) (ho : ∀ l c, I.wo l c = rowsB c (wo l))
include hx hi ho

theorem tot_of {l : ℕ} (h : ∀ c, Xv I l c = rowsB c (refOut x wi wo l)) (c : Dev nD) :
    Tot (PP I l) c = rowsB c (refOut x wi wo (l + 1)) := by
  have e : PP I l = fun d j => mlp (F := Ideal) (rowsB j (refOut x wi wo l)) (colsB d (wi l)) (rowsB d (wo l)) :=
    funext fun d => funext fun j => by
      show mlp (Xv I l j) (I.wi l d) (I.wo l d) = _
      rw [h, hi, ho]
  rw [e]
  exact layer_block _ _ _ c

theorem xv_block : ∀ (l : ℕ) (c : Dev nD), Xv I l c = rowsB c (refOut x wi wo l)
  | 0, c => hx c
  | l + 1, c => tot_of x wi wo hx hi ho (xv_block l) c

theorem tot_block (l : ℕ) (c : Dev nD) : Tot (PP I l) c = rowsB c (refOut x wi wo (l + 1)) :=
  tot_of x wi wo hx hi ho (xv_block x wi wo hx hi ho l) c

end Three

/-! ## The arrays and their blocks -/

section Blocks
variable {F : FTy → Type} [FloatOps F] (m : (ℓ : Loc nD τ sig) → Buf (Elt F) ℓ) (ρ : Dev nD → PrngReg)

theorem st0_eq (c : Dev nD) : st0 m c = m ((c.tc : Thread nD τ).loc main_arg0) :=
  Memref.read_access_unit_zero (Elt F) main_arg0 (funext fun a => by fin_cases a <;> decide) (fun a => by fin_cases a <;> decide) _
theorem st1_eq (c : Dev nD) : st1 m c = m ((c.tc : Thread nD τ).loc main_arg1) :=
  Memref.read_access_unit_zero (Elt F) main_arg1 (funext fun a => by fin_cases a <;> decide) (fun a => by fin_cases a <;> decide) _
theorem st2_eq (c : Dev nD) : st2 m c = m ((c.tc : Thread nD τ).loc main_arg2) :=
  Memref.read_access_unit_zero (Elt F) main_arg2 (funext fun a => by fin_cases a <;> decide) (fun a => by fin_cases a <;> decide) _
theorem st3_eq (c : Dev nD) : st3 m c = m ((c.tc : Thread nD τ).loc main_arg3) :=
  Memref.read_access_unit_zero (Elt F) main_arg3 (funext fun a => by fin_cases a <;> decide) (fun a => by fin_cases a <;> decide) _
theorem st4_eq (c : Dev nD) : st4 m c = m ((c.tc : Thread nD τ).loc main_arg4) :=
  Memref.read_access_unit_zero (Elt F) main_arg4 (funext fun a => by fin_cases a <;> decide) (fun a => by fin_cases a <;> decide) _
theorem st5_eq (c : Dev nD) : st5 m c = m ((c.tc : Thread nD τ).loc main_arg5) :=
  Memref.read_access_unit_zero (Elt F) main_arg5 (funext fun a => by fin_cases a <;> decide) (fun a => by fin_cases a <;> decide) _
theorem st6_eq (c : Dev nD) : st6 m c = m ((c.tc : Thread nD τ).loc main_arg6) :=
  Memref.read_access_unit_zero (Elt F) main_arg6 (funext fun a => by fin_cases a <;> decide) (fun a => by fin_cases a <;> decide) _

/-- The result array after the run holds what the body left. -/
theorem finalA_out (c : Dev nD) : finalA m ρ c (7 : Fin 8) = outV m c := by
  have h : (win0_7.blk (0 : Fin 1)).view.read (Elt F) (finalA m ρ c (7 : Fin 8)) = outV m c := by
    unfold finalA
    rw [show cfg0.N = ((0 : Fin 1) : Fin cfg0.N).val + 1 from rfl, (dats m ρ 0 c).arrAt_succ (7 : Fin 8) (0 : Fin 1)]
    rw [show (cfg0.win (7 : Fin 8)).flush (0 : Fin 1) = true from by decide, if_pos rfl]
    exact View.read_write_univ _ _
  rw [← h]
  exact (Memref.read_access_unit_zero (Elt F) main_v1 (funext fun a => by fin_cases a <;> decide) (fun a => by fin_cases a <;> decide) _).symm

end Blocks

end Cert.RingMlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal Cert.RingMlp in
/-- For any float values: the kernel runs, its arguments end unchanged, every counter ends at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c =>
      ⟨(h.1 c (0 : Fin 8)).trans (finalA_in m ρ c (0 : Fin 8) rfl), (h.1 c (1 : Fin 8)).trans (finalA_in m ρ c (1 : Fin 8) rfl),
        (h.1 c (2 : Fin 8)).trans (finalA_in m ρ c (2 : Fin 8) rfl), (h.1 c (3 : Fin 8)).trans (finalA_in m ρ c (3 : Fin 8) rfl),
        (h.1 c (4 : Fin 8)).trans (finalA_in m ρ c (4 : Fin 8) rfl), (h.1 c (5 : Fin 8)).trans (finalA_in m ρ c (5 : Fin 8) rfl),
        (h.1 c (6 : Fin 8)).trans (finalA_in m ρ c (6 : Fin 8) rfl)⟩, h.2⟩)
    (run_main (F := F) m ρ)

set_option maxRecDepth 100000 in
set_option maxHeartbeats 4000000 in
/-- The two programs' body tables are the same at the bit-exact floats: the one body, read through either name. -/
theorem defs₀_eq : (Cert.Kernel.defs₀ (F := Bits)) = (Cert.KernelIdeal.defs₀ (F := Bits)) := by
  funext p ℓ a
  cases p with
  | tc =>
    match ℓ, a with
    | ⟨0, _⟩, (t, s) =>
      exact show Cert.Kernel.defs₀ (F := Bits) .tc (0 : Fin 1) (t, s) = Cert.KernelIdeal.defs₀ (F := Bits) .tc (0 : Fin 1) (t, s) from rfl
  | scScalar _ => rfl
  | scVector _ _ => rfl

/-- The kernel's frame: the run at the bit-exact floats. -/
theorem frame_kernel : Cert.quiescent_Kernel := fun m ρ _ => by
  have h := run_args (F := Bits) m ρ
  unfold Cert.KernelIdeal.defs at h
  rw [← defs₀_eq] at h
  exact h

/-- The kernel's frame at the ideal floats. -/
theorem frame_kernelIdeal : Cert.quiescent_KernelIdeal := fun m ρ _ => run_args (F := Ideal) m ρ

/-- The reference's frame: it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

open Cert.RingMlp in
/-- Each device's result is its block of rows of the reference's. -/
theorem algebraic : Cert.algebraic_KernelIdeal_ReferenceIdeal := by
  intro m ρ m' ρ' _ hag
  let arg (b : Ref Cert.ReferenceIdeal.sig .tc) := m' (((0 : Dev Cert.ReferenceIdeal.nD).tc : Thread Cert.ReferenceIdeal.nD Cert.ReferenceIdeal.τ).loc b)
  let x : FVec Ideal Cert.ReferenceIdeal.S16384x256 .bf16 := arg Cert.ReferenceIdeal.main_arg0
  let wi : ℕ → FVec Ideal Cert.ReferenceIdeal.S256x16384 .bf16 := fun l => match l with
    | 0 => arg Cert.ReferenceIdeal.main_arg1
    | 1 => arg Cert.ReferenceIdeal.main_arg3
    | _ + 2 => arg Cert.ReferenceIdeal.main_arg5
  let wo : ℕ → FVec Ideal Cert.ReferenceIdeal.S16384x256 .bf16 := fun l => match l with
    | 0 => arg Cert.ReferenceIdeal.main_arg2
    | 1 => arg Cert.ReferenceIdeal.main_arg4
    | _ + 2 => arg Cert.ReferenceIdeal.main_arg6
  have hx : ∀ c, (inp m).x c = rowsB c x := fun c => (st0_eq m c).trans (hag c).1
  have hi : ∀ l c, (inp m).wi l c = colsB c (wi l) := fun l c => match l with
    | 0 => (st1_eq m c).trans (hag c).2.1
    | 1 => (st3_eq m c).trans (hag c).2.2.2.1
    | _ + 2 => (st5_eq m c).trans (hag c).2.2.2.2.2.1
  have ho : ∀ l c, (inp m).wo l c = rowsB c (wo l) := fun l c => match l with
    | 0 => (st2_eq m c).trans (hag c).2.2.1
    | 1 => (st4_eq m c).trans (hag c).2.2.2.2.1
    | _ + 2 => (st6_eq m c).trans (hag c).2.2.2.2.2.2
  refine ⟨refOut x wi wo 3, ?_, ?_⟩
  · exact (θ_run Cert.KernelIdeal.defs _ _).mono (fun _ h c =>
      ⟨(h.1 c (7 : Fin 8)).trans ((finalA_out m ρ c).trans (tot_block x wi wo hx hi ho 2 c)),
        (h.1 c (0 : Fin 8)).trans (finalA_in m ρ c (0 : Fin 8) rfl), (h.1 c (1 : Fin 8)).trans (finalA_in m ρ c (1 : Fin 8) rfl),
        (h.1 c (2 : Fin 8)).trans (finalA_in m ρ c (2 : Fin 8) rfl), (h.1 c (3 : Fin 8)).trans (finalA_in m ρ c (3 : Fin 8) rfl),
        (h.1 c (4 : Fin 8)).trans (finalA_in m ρ c (4 : Fin 8) rfl), (h.1 c (5 : Fin 8)).trans (finalA_in m ρ c (5 : Fin 8) rfl),
        (h.1 c (6 : Fin 8)).trans (finalA_in m ρ c (6 : Fin 8) rfl)⟩)
      (run_main (F := Ideal) m ρ)
  · exact (θ_run Cert.ReferenceIdeal.defs _ _).mono (fun _ h => ⟨(h 0).1, (h 0).2⟩) (Cert.ReferenceIdeal.Value.run (F := Ideal) m' ρ')

/-- Everything the certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
